-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_addressed_KernelIdeal [hPre_addressed_KernelIdeal : Cert.Pre_addressed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_addressed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_addressed_ReferenceIdeal [hPre_addressed_ReferenceIdeal : Cert.Pre_addressed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_addressed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_addressed_KernelIdeal [hKernelIdeal : Cert.KernelIdeal.Facts] [hPre_addressed_KernelIdeal : Cert.Pre_addressed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_addressed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_addressed_ReferenceIdeal [hReferenceIdeal : Cert.ReferenceIdeal.Facts] [hPre_addressed_ReferenceIdeal : Cert.Pre_addressed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_addressed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_addressed_KernelIdeal [hKernelIdeal : Cert.KernelIdeal.Facts] [hReferenceIdeal : Cert.ReferenceIdeal.Facts] [hPre_addressed_KernelIdeal : Cert.Pre_addressed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_addressed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![256, 16, 8, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![256, 16, 8, 64]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_addressed_KernelIdeal : Cert.Pre_addressed_KernelIdeal.Facts) (hPre_addressed_ReferenceIdeal : Cert.Pre_addressed_ReferenceIdeal.Facts),
    quiescent_Kernel (hKernel := hKernel)
    ∧ quiescent_KernelIdeal (hKernelIdeal := hKernelIdeal)
    ∧ quiescent_KernelIdeal_pre_addressed_KernelIdeal (hKernelIdeal := hKernelIdeal) (hPre_addressed_KernelIdeal := hPre_addressed_KernelIdeal)
    ∧ quiescent_ReferenceIdeal (hReferenceIdeal := hReferenceIdeal)
    ∧ quiescent_ReferenceIdeal_pre_addressed_ReferenceIdeal (hReferenceIdeal := hReferenceIdeal) (hPre_addressed_ReferenceIdeal := hPre_addressed_ReferenceIdeal)
    ∧ preserves_Kernel_KernelIdeal
    ∧ algebraic_KernelIdeal_ReferenceIdeal_pre_addressed_KernelIdeal (hKernelIdeal := hKernelIdeal) (hReferenceIdeal := hReferenceIdeal) (hPre_addressed_KernelIdeal := hPre_addressed_KernelIdeal)
-- ==== Pre_addressed_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_

variable [Facts]

def fn_where {F : FTy → Type} [FloatOps F] (arg0 : IVec S8x64 1) (arg1 : IVec S8x64 1) (arg2 : IVec S_ 1) : IVec S8x64 1 :=
  let v0 : IVec S8x64 1 := broadcastInDim S8x64 ![] bcast_S_S8x64 arg2
  let v1 : IVec S8x64 1 := select arg0 arg1 v0
  v1

def fn_part1 {F : FTy → Type} [FloatOps F] (main_arg4 : IVec S8 32) (main_v12 : IVec S_ 1) (main_v16 : IVec S_ 1) (main_v17 : FVec F S64x16x8x64 .bf16) : IVec S_ 1 :=
  let main_cst_4 : FVec F S_ .bf16 := constant S_ .bf16 0x7F80#16
  let main_v18 : FVec F S64x16x8x64 .bf16 := broadcastInDim S64x16x8x64 ![] bcast_S_S64x16x8x64 main_cst_4
  let main_v19 : IVec S64x16x8x64 1 := cmpf .olt main_v17 main_v18
  let main_c_5 : IVec S_ 1 := constantI S_ 1 1#1
  let main_v20 : IVec S_ 1 := (fun x v => Host.reduce IntOp.andi x v reducesTo_S64x16x8x64_S_d0_1_2_3 h_S_) main_v19 main_c_5
  let main_v21 : IVec S_ 1 := andi main_v16 main_v20
  let main_c_6 : IVec S_ 32 := constantI S_ 32 1#32
  let main_v22 : IVec S8 32 := broadcastInDim S8 ![] bcast_S_S8 main_c_6
  let main_v23 : IVec S8 1 := cmpi .sge main_arg4 main_v22
  let main_c_7 : IVec S_ 1 := constantI S_ 1 1#1
  let main_v24 : IVec S_ 1 := (fun x v => Host.reduce IntOp.andi x v reducesTo_S8_S_d0 h_S_) main_v23 main_c_7
  let main_v25 : IVec S_ 1 := andi main_v24 main_v12
  let main_v26 : IVec S_ 1 := andi main_v25 main_v21
  main_v26

def fn {F : FTy → Type} [FloatOps F] (main_arg0 : FVec F S8x1x8x64 .bf16) (main_arg1 : FVec F S64x16x8x64 .bf16) (main_arg2 : FVec F S64x16x8x64 .bf16) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 0#32
  let main_v6 : IVec S8x64 32 := broadcastInDim S8x64 ![] bcast_S_S8x64 main_c
  let main_v7 : IVec S8x64 1 := cmpi .sge main_arg3 main_v6
  let main_c_0 : IVec S_ 32 := constantI S_ 32 256#32
  let main_v8 : IVec S8x64 32 := broadcastInDim S8x64 ![] bcast_S_S8x64 main_c_0
  let main_v9 : IVec S8x64 1 := cmpi .slt main_arg3 main_v8
  let main_v10 : IVec S8x64 1 := andi main_v7 main_v9
  let main_c_1 : IVec S_ 1 := constantI S_ 1 1#1
  let main_v11 : IVec S8x64 1 := fn_where (F := F) main_v5 main_v10 main_c_1
  let main_c_2 : IVec S_ 1 := constantI S_ 1 1#1
  let main_v12 : IVec S_ 1 := (fun x v => Host.reduce IntOp.andi x v reducesTo_S8x64_S_d0_1 h_S_) main_v11 main_c_2
  let main_v13 : FVec F S8x1x8x64 .bf16 := Host.absf main_arg0
  let main_cst : FVec F S_ .bf16 := constant S_ .bf16 0x7F80#16
  let main_v14 : FVec F S8x1x8x64 .bf16 := broadcastInDim S8x1x8x64 ![] bcast_S_S8x1x8x64 main_cst
  let main_v15 : IVec S8x1x8x64 1 := cmpf .olt main_v13 main_v14
  let main_c_3 : IVec S_ 1 := constantI S_ 1 1#1
  let main_v16 : IVec S_ 1 := (fun x v => Host.reduce IntOp.andi x v reducesTo_S8x1x8x64_S_d0_1_2_3 h_S_) main_v15 main_c_3
  let main_v17 : FVec F S64x16x8x64 .bf16 := Host.absf main_arg1
  fn_part1 (F := F) main_arg4 main_v12 main_v16 main_v17
-- ==== Pre_addressed_ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S256x16x8x64 : S_.BroadcastsInDim S256x16x8x64 (![] : Fin 0 → Fin S256x16x8x64.rank)
  reducesTo_S256x16x8x64_S_d0_1_2_3 : S256x16x8x64.ReducesTo [0, 1, 2, 3] S_
  bcast_S_S8 : S_.BroadcastsInDim S8 (![] : Fin 0 → Fin S8.rank)
  reducesTo_S8_S_d0 : S8.ReducesTo [0] S_

variable [Facts]

def fn_where {F : FTy → Type} [FloatOps F] (arg0 : IVec S8x64 1) (arg1 : IVec S8x64 1) (arg2 : IVec S_ 1) : IVec S8x64 1 :=
  let v0 : IVec S8x64 1 := broadcastInDim S8x64 ![] bcast_S_S8x64 arg2
  let v1 : IVec S8x64 1 := select arg0 arg1 v0
  v1

def fn_part1 {F : FTy → Type} [FloatOps F] (main_arg4 : IVec S8 32) (main_v12 : IVec S_ 1) (main_v16 : IVec S_ 1) (main_v17 : FVec F S256x16x8x64 .bf16) : IVec S_ 1 :=
  let main_cst_4 : FVec F S_ .bf16 := constant S_ .bf16 0x7F80#16
  let main_v18 : FVec F S256x16x8x64 .bf16 := broadcastInDim S256x16x8x64 ![] bcast_S_S256x16x8x64 main_cst_4
  let main_v19 : IVec S256x16x8x64 1 := cmpf .olt main_v17 main_v18
  let main_c_5 : IVec S_ 1 := constantI S_ 1 1#1
  let main_v20 : IVec S_ 1 := (fun x v => Host.reduce IntOp.andi x v reducesTo_S256x16x8x64_S_d0_1_2_3 h_S_) main_v19 main_c_5
  let main_v21 : IVec S_ 1 := andi main_v16 main_v20
  let main_c_6 : IVec S_ 32 := constantI S_ 32 1#32
  let main_v22 : IVec S8 32 := broadcastInDim S8 ![] bcast_S_S8 main_c_6
  let main_v23 : IVec S8 1 := cmpi .sge main_arg4 main_v22
  let main_c_7 : IVec S_ 1 := constantI S_ 1 1#1
  let main_v24 : IVec S_ 1 := (fun x v => Host.reduce IntOp.andi x v reducesTo_S8_S_d0 h_S_) main_v23 main_c_7
  let main_v25 : IVec S_ 1 := andi main_v24 main_v12
  let main_v26 : IVec S_ 1 := andi main_v25 main_v21
  main_v26

def fn {F : FTy → Type} [FloatOps F] (main_arg0 : FVec F S8x1x8x64 .bf16) (main_arg1 : FVec F S256x16x8x64 .bf16) (main_arg2 : FVec F S256x16x8x64 .bf16) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_c : IVec S_ 32 := constantI S_ 32 0#32
  let main_v6 : IVec S8x64 32 := broadcastInDim S8x64 ![] bcast_S_S8x64 main_c
  let main_v7 : IVec S8x64 1 := cmpi .sge main_arg3 main_v6
  let main_c_0 : IVec S_ 32 := constantI S_ 32 256#32
  let main_v8 : IVec S8x64 32 := broadcastInDim S8x64 ![] bcast_S_S8x64 main_c_0
  let main_v9 : IVec S8x64 1 := cmpi .slt main_arg3 main_v8
  let main_v10 : IVec S8x64 1 := andi main_v7 main_v9
  let main_c_1 : IVec S_ 1 := constantI S_ 1 1#1
  let main_v11 : IVec S8x64 1 := fn_where (F := F) main_v5 main_v10 main_c_1
  let main_c_2 : IVec S_ 1 := constantI S_ 1 1#1
  let main_v12 : IVec S_ 1 := (fun x v => Host.reduce IntOp.andi x v reducesTo_S8x64_S_d0_1 h_S_) main_v11 main_c_2
  let main_v13 : FVec F S8x1x8x64 .bf16 := Host.absf main_arg0
  let main_cst : FVec F S_ .bf16 := constant S_ .bf16 0x7F80#16
  let main_v14 : FVec F S8x1x8x64 .bf16 := broadcastInDim S8x1x8x64 ![] bcast_S_S8x1x8x64 main_cst
  let main_v15 : IVec S8x1x8x64 1 := cmpf .olt main_v13 main_v14
  let main_c_3 : IVec S_ 1 := constantI S_ 1 1#1
  let main_v16 : IVec S_ 1 := (fun x v => Host.reduce IntOp.andi x v reducesTo_S8x1x8x64_S_d0_1_2_3 h_S_) main_v15 main_c_3
  let main_v17 : FVec F S256x16x8x64 .bf16 := Host.absf main_arg1
  fn_part1 (F := F) main_arg4 main_v12 main_v16 main_v17
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S_ : Shape := ⟨0, ![]⟩
abbrev S64 : Shape := ⟨1, ![64]⟩
abbrev S1x64 : Shape := ⟨2, ![1, 64]⟩
abbrev S8x1 : Shape := ⟨2, ![8, 1]⟩
abbrev S8x64x1 : Shape := ⟨3, ![8, 64, 1]⟩
abbrev S1x1x64 : Shape := ⟨3, ![1, 1, 64]⟩
abbrev S8x64x64 : Shape := ⟨3, ![8, 64, 64]⟩
abbrev S8x64x16 : Shape := ⟨3, ![8, 64, 16]⟩
abbrev S8x1024 : Shape := ⟨2, ![8, 1024]⟩
abbrev S1024x8 : Shape := ⟨2, ![1024, 8]⟩
abbrev S1x1024x1x8 : Shape := ⟨4, ![1, 1024, 1, 8]⟩
abbrev S1x1024x8x8 : Shape := ⟨4, ![1, 1024, 8, 8]⟩
abbrev S1024x64 : Shape := ⟨2, ![1024, 64]⟩
abbrev S8x8x64 : Shape := ⟨3, ![8, 8, 64]⟩
abbrev S4x66x64 : Shape := ⟨3, ![4, 66, 64]⟩
abbrev S3 : Shape := ⟨1, ![3]⟩
abbrev S64x16x1x64 : Shape := ⟨4, ![64, 16, 1, 64]⟩
abbrev S64x16x64 : Shape := ⟨3, ![64, 16, 64]⟩
abbrev S1x8x64 : Shape := ⟨3, ![1, 8, 64]⟩
abbrev S1x8 : Shape := ⟨2, ![1, 8]⟩
abbrev S1x1x8 : Shape := ⟨3, ![1, 1, 8]⟩
abbrev S1 : Shape := ⟨1, ![1]⟩
abbrev S1x66x64 : Shape := ⟨3, ![1, 66, 64]⟩
abbrev S1x64x64 : Shape := ⟨3, ![1, 64, 64]⟩
abbrev S64x64 : Shape := ⟨2, ![64, 64]⟩
abbrev S64x1 : Shape := ⟨2, ![64, 1]⟩
abbrev S8x1x1x64 : Shape := ⟨4, ![8, 1, 1, 64]⟩

abbrev nBuf : Space → Nat
  | .hbm => 43
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S64x16x8x64, .bf16⟩
  | .hbm, ⟨2, _⟩ => ⟨S64x16x8x64, .bf16⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S1x64, .i32⟩
  | .hbm, ⟨18, _⟩ => ⟨S8x1, .i32⟩
  | .hbm, ⟨19, _⟩ => ⟨S8x64, .i32⟩
  | .hbm, ⟨20, _⟩ => ⟨S8x64, .i32⟩
  | .hbm, ⟨21, _⟩ => ⟨S8x64, .i1⟩
  | .hbm, ⟨22, _⟩ => ⟨S8x64x1, .i32⟩
  | .hbm, ⟨23, _⟩ => ⟨S1x1x64, .i32⟩
  | .hbm, ⟨24, _⟩ => ⟨S8x64x64, .i32⟩
  | .hbm, ⟨25, _⟩ => ⟨S8x64x64, .i32⟩
  | .hbm, ⟨26, _⟩ => ⟨S8x64x64, .i1⟩
  | .hbm, ⟨27, _⟩ => ⟨S8x64x1, .i1⟩
  | .hbm, ⟨28, _⟩ => ⟨S8x64x64, .i1⟩
  | .hbm, ⟨29, _⟩ => ⟨S8x64x64, .i1⟩
  | .hbm, ⟨30, _⟩ => ⟨S8x64x64, .i32⟩
  | .hbm, ⟨31, _⟩ => ⟨S_, .i32⟩
  | .hbm, ⟨32, _⟩ => ⟨S8x64, .i32⟩
  | .hbm, ⟨33, _⟩ => ⟨S8x64, .f32⟩
  | .hbm, ⟨34, _⟩ => ⟨S8x64x16, .f32⟩
  | .hbm, ⟨35, _⟩ => ⟨S8x1024, .f32⟩
  | .hbm, ⟨36, _⟩ => ⟨S1024x8, .f32⟩
  | .hbm, ⟨37, _⟩ => ⟨S1x1024x1x8, .f32⟩
  | .hbm, ⟨38, _⟩ => ⟨S1x1024x8x8, .f32⟩
  | .hbm, ⟨39, _⟩ => ⟨S1024x64, .f32⟩
  | .hbm, ⟨40, _⟩ => ⟨S8x8x64, .bf16⟩
  | .hbm, ⟨41, _⟩ => ⟨S8x8x64, .bf16⟩
  | .hbm, ⟨42, _⟩ => ⟨S8x1x8x64, .f32⟩
  | .local _ .vmem, ⟨0, _⟩ => ⟨S64x16x8x64, .bf16⟩
  | .local _ .vmem, ⟨1, _⟩ => ⟨S64x16x8x64, .bf16⟩
  | .local _ .vmem, ⟨2, _⟩ => ⟨S8x8x64, .bf16⟩
  | .local _ .vmem, ⟨3, _⟩ => ⟨S1024x64, .f32⟩
  | .local _ .vmem, ⟨4, _⟩ => ⟨S8x1x8x64, .f32⟩
  | .local _ .vmem, ⟨5, _⟩ => ⟨S4x66x64, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_9 : BitVec 32 := 8#32
  let v21 : BitVec 32 := Scalar.muli v5 c8_i32_9
  let v22 : BitVec 32 := Scalar.addi c0_i32_10 v21
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_11 : BitVec 32 := 4#32
  let v23 : BitVec 32 := Scalar.muli v8 c4_i32_11
  let v24 : BitVec 32 := Scalar.addi v22 v23
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v10 : BitVec 32 := Scalar.addi v2 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_21 : BitVec 32 := 8#32
  let v38 : BitVec 32 := Scalar.muli v5 c8_i32_21
  let v39 : BitVec 32 := Scalar.addi c0_i32_22 v38
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_23 : BitVec 32 := 4#32
  let v40 : BitVec 32 := Scalar.muli v8 c4_i32_23
  let v41 : BitVec 32 := Scalar.addi v39 v40
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v27 : BitVec 32 := Scalar.addi v2 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_32 : BitVec 32 := 8#32
  let v55 : BitVec 32 := Scalar.muli v5 c8_i32_32
  let v56 : BitVec 32 := Scalar.addi c0_i32_33 v55
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_34 : BitVec 32 := 4#32
  let v57 : BitVec 32 := Scalar.muli v8 c4_i32_34
  let v58 : BitVec 32 := Scalar.addi v56 v57
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v44 : BitVec 32 := Scalar.addi v2 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : Index := Scalar.indexCast v2
  let c0_55 : Index := 0#32
  let c0_56 : Index := 0#32
  ![v87.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : Index := Scalar.indexCast v2
  let c64 : Index := 64#32
  let c0_57 : Index := 0#32
  ![v92.toNat, 64, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : Index := Scalar.indexCast v2
  let c65 : Index := 65#32
  let c0_58 : Index := 0#32
  ![v97.toNat, 65, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v127 : Index := Scalar.indexCast v2
  let c8_77 : Index := 8#32
  let c0_78 : Index := 0#32
  ![v127.toNat, 8, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : Index := Scalar.indexCast v2
  let c64_79 : Index := 64#32
  let c8_80 : Index := 8#32
  ![v132.toNat, 64, 8]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v137 : Index := Scalar.indexCast v2
  let c65_81 : Index := 65#32
  let c8_82 : Index := 8#32
  ![v137.toNat, 65, 8]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : Index := Scalar.indexCast v2
  let c16_101 : Index := 16#32
  let c0_102 : Index := 0#32
  ![v167.toNat, 16, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : Index := Scalar.indexCast v2
  let c64_103 : Index := 64#32
  let c16_104 : Index := 16#32
  ![v172.toNat, 64, 16]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v177 : Index := Scalar.indexCast v2
  let c65_105 : Index := 65#32
  let c16_106 : Index := 16#32
  ![v177.toNat, 65, 16]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : Index := Scalar.indexCast v2
  let c24_125 : Index := 24#32
  let c0_126 : Index := 0#32
  ![v207.toNat, 24, 0]
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v212 : Index := Scalar.indexCast v2
  let c64_127 : Index := 64#32
  let c24_128 : Index := 24#32
  ![v212.toNat, 64, 24]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v217 : Index := Scalar.indexCast v2
  let c65_129 : Index := 65#32
  let c24_130 : Index := 24#32
  ![v217.toNat, 65, 24]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v247 : Index := Scalar.indexCast v2
  let c32_149 : Index := 32#32
  let c0_150 : Index := 0#32
  ![v247.toNat, 32, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v252 : Index := Scalar.indexCast v2
  let c64_151 : Index := 64#32
  let c32_152 : Index := 32#32
  ![v252.toNat, 64, 32]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : Index := Scalar.indexCast v2
  let c65_153 : Index := 65#32
  let c32_154 : Index := 32#32
  ![v257.toNat, 65, 32]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v287 : Index := Scalar.indexCast v2
  let c40_173 : Index := 40#32
  let c0_174 : Index := 0#32
  ![v287.toNat, 40, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v292 : Index := Scalar.indexCast v2
  let c64_175 : Index := 64#32
  let c40_176 : Index := 40#32
  ![v292.toNat, 64, 40]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v297 : Index := Scalar.indexCast v2
  let c65_177 : Index := 65#32
  let c40_178 : Index := 40#32
  ![v297.toNat, 65, 40]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v327 : Index := Scalar.indexCast v2
  let c48_197 : Index := 48#32
  let c0_198 : Index := 0#32
  ![v327.toNat, 48, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v332 : Index := Scalar.indexCast v2
  let c64_199 : Index := 64#32
  let c48_200 : Index := 48#32
  ![v332.toNat, 64, 48]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v337 : Index := Scalar.indexCast v2
  let c65_201 : Index := 65#32
  let c48_202 : Index := 48#32
  ![v337.toNat, 65, 48]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v367 : Index := Scalar.indexCast v2
  let c56_221 : Index := 56#32
  let c0_222 : Index := 0#32
  ![v367.toNat, 56, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v372 : Index := Scalar.indexCast v2
  let c64_223 : Index := 64#32
  let c56_224 : Index := 56#32
  ![v372.toNat, 64, 56]
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v377 : Index := Scalar.indexCast v2
  let c65_225 : Index := 65#32
  let c56_226 : Index := 56#32
  ![v377.toNat, 65, 56]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_240 : BitVec 32 := 0#32
  let c0_i32_241 : BitVec 32 := 0#32
  ![v2.toNat, 0, 0]
def k0_dev4 (d0 : Dev nD) : Nat :=
  let c0_i32_237 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_236 : BitVec 32 := 8#32
  let v392 : BitVec 32 := Scalar.muli v5 c8_i32_236
  let v393 : BitVec 32 := Scalar.addi c0_i32_237 v392
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_238 : BitVec 32 := 4#32
  let v394 : BitVec 32 := Scalar.muli v8 c4_i32_238
  let v395 : BitVec 32 := Scalar.addi v393 v394
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_227 : BitVec 32 := 1#32
  let v381 : BitVec 32 := Scalar.addi v2 c1_i32_227
  let c4_i32_228 : BitVec 32 := 4#32
  let c0_i32_229 : BitVec 32 := 0#32
  let v382 : BitVec 1 := Scalar.cmpi .eq c4_i32_228 c0_i32_229
  let c1_i32_230 : BitVec 32 := 1#32
  let v383 : BitVec 32 := Scalar.select v382 c1_i32_230 c4_i32_228
  let v384 : BitVec 32 := Scalar.remsi v381 v383
  let c0_i32_232 : BitVec 32 := 0#32
  let v386 : BitVec 1 := Scalar.cmpi .slt v384 c0_i32_232
  let c0_i32_233 : BitVec 32 := 0#32
  let v387 : BitVec 1 := Scalar.cmpi .slt v383 c0_i32_233
  let v388 : BitVec 1 := Scalar.xori v386 v387
  let c0_i32_231 : BitVec 32 := 0#32
  let v385 : BitVec 1 := Scalar.cmpi .ne v384 c0_i32_231
  let v389 : BitVec 1 := Scalar.andi v388 v385
  let v390 : BitVec 32 := Scalar.addi v384 v383
  let v391 : BitVec 32 := Scalar.select v389 v390 v384
  let c1_i32_239 : BitVec 32 := 1#32
  let v396 : BitVec 32 := Scalar.muli v391 c1_i32_239
  let v397 : BitVec 32 := Scalar.addi v395 v396
  v397.toNat
def k0_dev5 (d0 : Dev nD) : Nat :=
  let c0_i32_254 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_253 : BitVec 32 := 8#32
  let v415 : BitVec 32 := Scalar.muli v5 c8_i32_253
  let v416 : BitVec 32 := Scalar.addi c0_i32_254 v415
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_255 : BitVec 32 := 4#32
  let v417 : BitVec 32 := Scalar.muli v8 c4_i32_255
  let v418 : BitVec 32 := Scalar.addi v416 v417
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_244 : BitVec 32 := 2#32
  let v404 : BitVec 32 := Scalar.addi v2 c2_i32_244
  let c4_i32_245 : BitVec 32 := 4#32
  let c0_i32_246 : BitVec 32 := 0#32
  let v405 : BitVec 1 := Scalar.cmpi .eq c4_i32_245 c0_i32_246
  let c1_i32_247 : BitVec 32 := 1#32
  let v406 : BitVec 32 := Scalar.select v405 c1_i32_247 c4_i32_245
  let v407 : BitVec 32 := Scalar.remsi v404 v406
  let c0_i32_249 : BitVec 32 := 0#32
  let v409 : BitVec 1 := Scalar.cmpi .slt v407 c0_i32_249
  let c0_i32_250 : BitVec 32 := 0#32
  let v410 : BitVec 1 := Scalar.cmpi .slt v406 c0_i32_250
  let v411 : BitVec 1 := Scalar.xori v409 v410
  let c0_i32_248 : BitVec 32 := 0#32
  let v408 : BitVec 1 := Scalar.cmpi .ne v407 c0_i32_248
  let v412 : BitVec 1 := Scalar.andi v411 v408
  let v413 : BitVec 32 := Scalar.addi v407 v406
  let v414 : BitVec 32 := Scalar.select v412 v413 v407
  let c1_i32_256 : BitVec 32 := 1#32
  let v419 : BitVec 32 := Scalar.muli v414 c1_i32_256
  let v420 : BitVec 32 := Scalar.addi v418 v419
  v420.toNat
def k0_dev6 (d0 : Dev nD) : Nat :=
  let c0_i32_271 : BitVec 32 := 0#32
  let v3 : BitVec 32 := Dev.word d0
  let c8_i32 : BitVec 32 := 8#32
  let v4 : BitVec 32 := Scalar.divsi v3 c8_i32
  let c2_i32 : BitVec 32 := 2#32
  let v5 : BitVec 32 := Scalar.remsi v4 c2_i32
  let c8_i32_270 : BitVec 32 := 8#32
  let v438 : BitVec 32 := Scalar.muli v5 c8_i32_270
  let v439 : BitVec 32 := Scalar.addi c0_i32_271 v438
  let v6 : BitVec 32 := Dev.word d0
  let c4_i32_1 : BitVec 32 := 4#32
  let v7 : BitVec 32 := Scalar.divsi v6 c4_i32_1
  let c2_i32_0 : BitVec 32 := 2#32
  let v8 : BitVec 32 := Scalar.remsi v7 c2_i32_0
  let c4_i32_272 : BitVec 32 := 4#32
  let v440 : BitVec 32 := Scalar.muli v8 c4_i32_272
  let v441 : BitVec 32 := Scalar.addi v439 v440
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_261 : BitVec 32 := 3#32
  let v427 : BitVec 32 := Scalar.addi v2 c3_i32_261
  let c4_i32_262 : BitVec 32 := 4#32
  let c0_i32_263 : BitVec 32 := 0#32
  let v428 : BitVec 1 := Scalar.cmpi .eq c4_i32_262 c0_i32_263
  let c1_i32_264 : BitVec 32 := 1#32
  let v429 : BitVec 32 := Scalar.select v428 c1_i32_264 c4_i32_262
  let v430 : BitVec 32 := Scalar.remsi v427 v429
  let c0_i32_266 : BitVec 32 := 0#32
  let v432 : BitVec 1 := Scalar.cmpi .slt v430 c0_i32_266
  let c0_i32_267 : BitVec 32 := 0#32
  let v433 : BitVec 1 := Scalar.cmpi .slt v429 c0_i32_267
  let v434 : BitVec 1 := Scalar.xori v432 v433
  let c0_i32_265 : BitVec 32 := 0#32
  let v431 : BitVec 1 := Scalar.cmpi .ne v430 c0_i32_265
  let v435 : BitVec 1 := Scalar.andi v434 v431
  let v436 : BitVec 32 := Scalar.addi v430 v429
  let v437 : BitVec 32 := Scalar.select v435 v436 v430
  let c1_i32_273 : BitVec 32 := 1#32
  let v442 : BitVec 32 := Scalar.muli v437 c1_i32_273
  let v443 : BitVec 32 := Scalar.addi v441 v442
  v443.toNat
abbrev stage0_0 : Fin 1 → Memref sig .tc .vmem S64x16x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S64 : Shape := ⟨1, ![64]⟩
abbrev S1x64 : Shape := ⟨2, ![1, 64]⟩
abbrev S8x1 : Shape := ⟨2, ![8, 1]⟩
abbrev S8x64x16 : Shape := ⟨3, ![8, 64, 16]⟩
abbrev S8x1024 : Shape := ⟨2, ![8, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S256x16x8x64, .bf16⟩
  | .hbm, ⟨2, _⟩ => ⟨S256x16x8x64, .bf16⟩
  | .hbm, ⟨3, _⟩ => ⟨S8x64, .i32⟩
  | .hbm, ⟨4, _⟩ => ⟨S8, .i32⟩
  | .hbm, ⟨5, _⟩ => ⟨S256x16x8x64, .f32⟩
  | .hbm, ⟨6, _⟩ => ⟨S_, .i32⟩
  | .hbm, ⟨7, _⟩ => ⟨S8x64, .i32⟩
  | .hbm, ⟨8, _⟩ => ⟨S8x64, .i1⟩
  | .hbm, ⟨9, _⟩ => ⟨S_, .i32⟩
  | .hbm, ⟨10, _⟩ => ⟨S8x64, .i32⟩
  | .hbm, ⟨11, _⟩ => ⟨S8x64, .i32⟩
  | .hbm, ⟨12, _⟩ => ⟨S8x64, .i32⟩
  | .hbm, ⟨13, _⟩ => ⟨S8x64x1, .i32⟩
  | .hbm, ⟨14, _⟩ => ⟨S8x64x16x8x64, .f32⟩
  | .hbm, ⟨15, _⟩ => ⟨S8x1024x8x64, .f32⟩
  | .hbm, ⟨16, _⟩ => ⟨S256x16x8x64, .f32⟩
  | .hbm, ⟨17, _⟩ => ⟨S_, .i32⟩
  | .hbm, ⟨18, _⟩ => ⟨S8x64, .i32⟩
  | .hbm, ⟨19, _⟩ => ⟨S8x64, .i1⟩
  | .hbm, ⟨20, _⟩ => ⟨S_, .i32⟩
  | .hbm, ⟨21, _⟩ => ⟨S8x64, .i32⟩
  | .hbm, ⟨22, _⟩ => ⟨S8x64, .i32⟩
  | .hbm, ⟨23, _⟩ => ⟨S8x64, .i32⟩
  | .hbm, ⟨24, _⟩ => ⟨S8x64x1, .i32⟩
  | .hbm, ⟨25, _⟩ => ⟨S8x64x16x8x64, .f32⟩
  | .hbm, ⟨26, _⟩ => ⟨S8x1024x8x64, .f32⟩
  | .hbm, ⟨27, _⟩ => ⟨S8x1x8x64, .f32⟩
  | .hbm, ⟨28, _⟩ => ⟨S8x8x1x1024, .f32⟩
  | .hbm, ⟨29, _⟩ => ⟨S_, .f32⟩
  | .hbm, ⟨30, _⟩ => ⟨S8x8x1x1024, .f32⟩
  | .hbm, ⟨31, _⟩ => ⟨S8x8x1x1024, .f32⟩
  | .hbm, ⟨32, _⟩ => ⟨S64, .i32⟩
  | .hbm, ⟨33, _⟩ => ⟨S1x64, .i32⟩
  | .hbm, ⟨34, _⟩ => ⟨S8x1, .i32⟩
  | .hbm, ⟨35, _⟩ => ⟨S8x64, .i32⟩
  | .hbm, ⟨36, _⟩ => ⟨S8x64, .i32⟩
  | .hbm, ⟨37, _⟩ => ⟨S8x64, .i1⟩
  | .hbm, ⟨38, _⟩ => ⟨S8x64x16, .i1⟩
  | .hbm, ⟨39, _⟩ => ⟨S8x1024, .i1⟩
  | .hbm, ⟨40, _⟩ => ⟨S8x1x1x1024, .i1⟩
  | .hbm, ⟨41, _⟩ => ⟨S_, .f32⟩
  | .hbm, ⟨42, _⟩ => ⟨S_, .f32⟩
  | .hbm, ⟨43, _⟩ => ⟨S8x8x1x1024, .i1⟩
  | .hbm, ⟨44, _⟩ => ⟨S8x8x1x1024, .f32⟩
  | .hbm, ⟨45, _⟩ => ⟨S8x8x1x1024, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x1024, .f32⟩
  | .hbm, ⟨50, _⟩ => ⟨S8x8x1x1024, .f32⟩
  | .hbm, ⟨51, _⟩ => ⟨S8x8x1x1024, .f32⟩
  | .hbm, ⟨52, _⟩ => ⟨S_, .f32⟩
  | .hbm, ⟨53, _⟩ => ⟨S8x8x1, .f32⟩
  | .hbm, ⟨54, _⟩ => ⟨S8x8x1x1, .f32⟩
  | .hbm, ⟨55, _⟩ => ⟨S8x8x1x1024, .f32⟩
  | .hbm, ⟨56, _⟩ => ⟨S8x8x1x1024, .f32⟩
  | .hbm, ⟨57, _⟩ => ⟨S8x8x64x1, .f32⟩
  | .hbm, ⟨58, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Common.lean ====
/-
  The exchange of the kernel, as a protocol of rounds: the four devices of a line along `z` give each other their three
  foreign slots of the scratch buffer through the barrier, then every device copies its own slot into the same slot of the
  three others, and waits for its three copies and for the three that arrive.
-/
module

public import proofs.«01_k».proof.Defs
public import Idealize.ShloMosaic.Lib.Pipeline.Launch
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Regions

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The line of a device -/

/-- The device at place `z` of the line of `c`. -/
def onLine (c : Dev nD) (z : Fin 4) : Dev nD := ⟨c.val / 4 * 4 + z.val, by have := c.isLt; have := z.isLt; simp only [nD] at *; omega⟩
/-- The place of `c` in its line. -/
def place (c : Dev nD) : Fin 4 := ⟨c.val % 4, Nat.mod_lt _ (by decide)⟩
/-- The device `j + 1` places further along the line, around its end. -/
def fwd (j : Fin 3) (c : Dev nD) : Dev nD := onLine c (place c + 1 + j.castSucc)
/-- The device `j + 1` places back along the line. -/
def bwd (j : Fin 3) (c : Dev nD) : Dev nD := onLine c (place c - 1 - j.castSucc)

theorem bwd_fwd : ∀ (j : Fin 3) (c : Dev nD), bwd j (fwd j c) = c := by decide
theorem fwd_bwd : ∀ (j : Fin 3) (c : Dev nD), fwd j (bwd j c) = c := by decide
theorem bwd_rev : ∀ (j : Fin 3) (c : Dev nD), bwd j.rev c = fwd j c := by decide
theorem place_onLine : ∀ (c : Dev nD) (z : Fin 4), place (onLine c z) = z := by decide
theorem onLine_place : ∀ c : Dev nD, onLine c (place c) = c := by decide
theorem onLine_onLine : ∀ (c : Dev nD) (z z' : Fin 4), onLine (onLine c z) z' = onLine c z' := by decide
theorem onLine_fwd (j : Fin 3) (c : Dev nD) (z : Fin 4) : onLine (fwd j c) z = onLine c z := onLine_onLine _ _ _
theorem onLine_bwd (j : Fin 3) (c : Dev nD) (z : Fin 4) : onLine (bwd j c) z = onLine c z := onLine_onLine _ _ _
/-- Going `j + 1` places along the line, as a permutation of the devices. -/
def turn (j : Fin 3) : Dev nD ≃ Dev nD := ⟨fwd j, bwd j, bwd_fwd j, fwd_bwd j⟩

theorem dev1_eq : ∀ c : Dev nD, k0_dev1 c = (fwd 0 c).val := by decide
theorem dev2_eq : ∀ c : Dev nD, k0_dev2 c = (fwd 1 c).val := by decide
theorem dev3_eq : ∀ c : Dev nD, k0_dev3 c = (fwd 2 c).val := by decide
theorem dev4_eq : ∀ c : Dev nD, k0_dev4 c = (fwd 0 c).val := by decide
theorem dev5_eq : ∀ c : Dev nD, k0_dev5 c = (fwd 1 c).val := by decide
theorem dev6_eq : ∀ c : Dev nD, k0_dev6 c = (fwd 2 c).val := by decide

/-! ## The resource algebra: the windows' copy and the exchange's -/

/-- The duties of a cell's round: one, except the barrier's three. -/
abbrev UT : Type := URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The semaphores -/

abbrev barS : Sem sig := barrier0
/-- The `j`-th send semaphore. -/
def sendS (j : Fin 3) : DmaSem sig := ⟨5 + j.val, by have := j.isLt; show 5 + j.val < 11; omega⟩
/-- The `j`-th receive semaphore. -/
def recvS (j : Fin 3) : DmaSem sig := ⟨8 + j.val, by have := j.isLt; show 8 + j.val < 11; omega⟩
/-- Which of the three a send or a receive semaphore is. -/
def semIx (s : DmaSem sig) : Fin 3 := ⟨(s.val + 1) % 3, Nat.mod_lt _ (by decide)⟩
theorem semIx_send : ∀ j, semIx (sendS j) = j := by decide
theorem semIx_recv : ∀ j, semIx (recvS j) = j := by decide

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-! ## The slots of the scratch buffer -/

abbrev comm : Memref sig .tc .vmem S4x66x64 .f32 := Memref.whole cc0_scratch0

theorem slot_inb (z : Fin 4) : ∀ a : Fin 3, (![z.val, 0, 0] : Fin 3 → ℕ) a + S1x66x64.size a ≤ S4x66x64.size a := by
  revert z; decide

/-- Slot `z` of the scratch buffer. -/
abbrev slotM (z : Fin 4) : Memref sig .tc .vmem S1x66x64 .f32 :=
  comm.slice (Rect.unit (s := S4x66x64) ![z.val, 0, 0] S1x66x64.size (slot_inb z)) (fun _ => rfl)

abbrev slotSet (z : Fin 4) : Finset S4x66x64.Idx := (slotM z).view.set

theorem mem_slotSet (z : Fin 4) (i : S4x66x64.Idx) : i ∈ slotSet z ↔ (i 0).val = z.val := by
  show i ∈ ((View.whole cc0_scratch0).slice (Rect.unit (s := S4x66x64) ![z.val, 0, 0] S1x66x64.size (slot_inb z))).set ↔ _
  rw [View.set_slice_whole]
  refine (Rect.mem_set_unit (s := S4x66x64) (i := i)).trans ⟨fun h => ?_, fun h a => ?_⟩
  · have h0 := h 0
    have e1 : (![z.val, 0, 0] : Fin 3 → ℕ) 0 = z.val := rfl
    have e2 : S1x66x64.size 0 = 1 := rfl
    omega
  · fin_cases a
    · show z.val ≤ (i 0).val ∧ (i 0).val < z.val + 1
      omega
    · exact ⟨Nat.zero_le _, by have := (i 1).isLt; simpa using this⟩
    · exact ⟨Nat.zero_le _, by have := (i 2).isLt; simpa using this⟩

abbrev N : ℕ := (slotM 0).view.dmaCredit
theorem N_pos : 0 < N := View.dmaCredit_pos _ (by decide)

/-- Slot `z` of device `c` at share `q` and contents `f`. -/
abbrev slotPts (c : Dev nD) (z : Fin 4) (q : PosShare TreeShare) (f : (cc0_scratch0 : Ref sig .tc).ty.Contents (Elt F)) : sProp 𝕄 :=
  (slotM z).view.loc (c : Thread nD τ) ↦[(slotM z).view.set]{q} f

/-- The contents of the scratch buffer of `c` after the exchange, `X d` the slot that device `d` fills. -/
def commBuf (X : Dev nD → Fin 66 → Fin 64 → Elt F .f32) (c : Dev nD) : (cc0_scratch0 : Ref sig .tc).ty.Contents (Elt F) :=
  show S4x66x64.Idx → Elt F .f32 from fun i => X (onLine c (i 0)) (i 1) (i 2)

/-- The share of its own slot that copy `j` reads. -/
def piece (j : Fin 3) : PosShare TreeShare :=
  if j = 0 then fullShare.left else if j = 1 then fullShare.right.left else fullShare.right.right

theorem slotPts_pieces (c : Dev nD) (z : Fin 4) (f : (cc0_scratch0 : Ref sig .tc).ty.Contents (Elt F)) :
    (slotPts c z fullShare f : sProp 𝕄) = iprop(slotPts c z (piece 0) f ∗ slotPts c z (piece 1) f ∗ slotPts c z (piece 2) f) := by
  show _ = iprop(slotPts c z fullShare.left f ∗ slotPts c z fullShare.right.left f ∗ slotPts c z fullShare.right.right f)
  unfold slotPts
  rw [BI.Entails.antisymm (pointsTo_share (PosShare.mem_left_op_right fullShare)).1 (pointsTo_share (PosShare.mem_left_op_right fullShare)).2,
    BI.Entails.antisymm (pointsTo_share (PosShare.mem_left_op_right fullShare.right)).1 (pointsTo_share (PosShare.mem_left_op_right fullShare.right)).2]

variable (X : Dev nD → Fin 66 → Fin 64 → Elt F .f32)

/-- What a copy from slot `place c` of `c` to a device of its line leaves there. -/
theorem landed_congr (c p : Dev nD) (z : Fin 4) (hz : z = place c) (hp : onLine p z = c) (fd : (cc0_scratch0 : Ref sig .tc).ty.Contents (Elt F)) :
    ∀ i ∈ slotSet z, ((slotM z).view.write (Elt F) fd ((slotM z).view.read (Elt F) (commBuf X c)) Finset.univ : S4x66x64.Idx → Elt F .f32) i
      = (commBuf X p : S4x66x64.Idx → Elt F .f32) i := by
  intro i hi
  have h0 := (mem_slotSet z i).mp hi
  obtain ⟨x, -, rfl⟩ := Finset.mem_map.mp hi
  have e0 : (((slotM z).view.emb x : S4x66x64.Idx) 0) = z := Fin.ext h0
  rw [View.write_emb_of_mem _ _ (Finset.mem_univ x)]
  show X (onLine c (((slotM z).view.emb x : S4x66x64.Idx) 0)) _ _ = X (onLine p (((slotM z).view.emb x : S4x66x64.Idx) 0)) _ _
  rw [e0, hp, hz, onLine_place]

/-! ## The schedule -/

/-- What device `bwd k c` pays to the barrier of `c`: its slot for `c` to fill, and that its receive cell is ready. -/
def barPay (c : Dev nD) (k : Fin 3) : sProp 𝕄 :=
  iprop((∃ f, slotPts (bwd k c) (place c) fullShare f) ∗ reached ER (recvCell (bwd k c) k.rev) 0)
/-- What the copy `j` of device `bwd j c` pays to the receive cell of `c`: the slot, filled. -/
def recvPay (c : Dev nD) (j : Fin 3) : sProp 𝕄 := slotPts c (place (bwd j c)) fullShare (commBuf X c)
/-- What the own copy `j` gives back: the share of the slot it read. -/
def sendPay (c : Dev nD) (j : Fin 3) : sProp 𝕄 := slotPts c (place c) (piece j) (commBuf X c)

/-- Round 0: three duties on every barrier, one on every send and every receive cell. -/
def rd : Rounds.Schedule (GSem nD τ sig) (Fin 3) 𝕄 where
  duties g r := if r = 0 ∧ g.1.2 = .tc then (match g.2 with
    | .reg _ => if g.2 = .reg barS then Finset.univ else ∅
    | .dma s => if 5 ≤ s.val then {0} else ∅) else ∅
  unitless _ := False
  amount g _ _ := if g.2 = .reg barS then 1 else N
  payload g _ d := match g.2 with
    | .reg _ => barPay g.1.1 d
    | .dma s => if 8 ≤ s.val then recvPay X g.1.1 (semIx s) else sendPay X g.1.1 (semIx s)
  amount_pos g _ _ _ := by
    by_cases h : g.2 = .reg barS
    · rw [if_pos h]; exact Nat.one_pos
    · rw [if_neg h]; exact N_pos

instance rd_payload_storable (g : GSem nD τ sig) (r : ℕ) (d : Fin 3) :
    BI.Storable (upEmb : UEmb _ 𝕄) ((rd X).payload g r d) := by
  show BI.Storable upEmb (match g.2 with
    | .reg _ => barPay g.1.1 d
    | .dma s => if 8 ≤ s.val then recvPay X g.1.1 (semIx s) else sendPay X g.1.1 (semIx s))
  unfold barPay recvPay sendPay
  (repeat' split) <;> infer_instance

section Sched

variable (c : Dev nD) (j : Fin 3)

theorem dma_ne_bar (s : DmaSem sig) : (SemLoc.dma s : SemLoc sig) ≠ .reg barS := fun h => by cases h
theorem send_ge (j : Fin 3) : 5 ≤ (sendS j).val := Nat.le_add_right _ _
theorem recv_ge (j : Fin 3) : 8 ≤ (recvS j).val := Nat.le_add_right _ _
theorem send_lt (j : Fin 3) : ¬ 8 ≤ (sendS j).val := by have := j.isLt; show ¬ 8 ≤ 5 + j.val; omega

theorem duties_bar : (rd X).duties (barCell c) 0 = Finset.univ := by
  dsimp only [rd]; rw [if_pos ⟨rfl, rfl⟩]; exact if_pos rfl
theorem duties_send : (rd X).duties (sendCell c j) 0 = {0} := by
  dsimp only [rd]; rw [if_pos ⟨rfl, rfl⟩]; exact if_pos (send_ge j)
theorem duties_recv : (rd X).duties (recvCell c j) 0 = {0} := by
  dsimp only [rd]; rw [if_pos ⟨rfl, rfl⟩]; exact if_pos ((by decide : 5 ≤ 8).trans (recv_ge j))
theorem duties_later (g : GSem nD τ sig) : ∀ r, 1 ≤ r → (rd X).duties g r = ∅ :=
  fun r hr => by dsimp only [rd]; exact if_neg (fun h => by omega)

theorem amount_bar (k : Fin 3) : (rd X).amount (barCell c) 0 k = 1 := by dsimp only [rd]; exact if_pos rfl
theorem amount_send (k : Fin 3) : (rd X).amount (sendCell c j) 0 k = N := by dsimp only [rd]; exact if_neg (dma_ne_bar _)
theorem amount_recv (k : Fin 3) : (rd X).amount (recvCell c j) 0 k = N := by dsimp only [rd]; exact if_neg (dma_ne_bar _)

theorem expect_bar : (rd X).expect (barCell c) 0 = 3 := by
  unfold Schedule.expect Schedule.amountOf; rw [duties_bar, Finset.sum_congr rfl fun k _ => amount_bar X c k]; rfl
theorem expect_send : (rd X).expect (sendCell c j) 0 = N := by
  unfold Schedule.expect Schedule.amountOf; rw [duties_send, Finset.sum_singleton, amount_send]
theorem expect_recv : (rd X).expect (recvCell c j) 0 = N := by
  unfold Schedule.expect Schedule.amountOf; rw [duties_recv, Finset.sum_singleton, amount_recv]

theorem payload_bar (k : Fin 3) : (rd X).payload (barCell c) 0 k = barPay c k := rfl
theorem payload_send (k : Fin 3) : (rd X).payload (sendCell c j) 0 k = sendPay X c j := by
  dsimp only [rd]; rw [if_neg (send_lt j), semIx_send]
theorem payload_recv (k : Fin 3) : (rd X).payload (recvCell c j) 0 k = recvPay X c j := by
  dsimp only [rd]; rw [if_pos (recv_ge j), semIx_recv]

theorem three {M : Type} [URA M] (Φ : Fin 3 → sProp M) : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]
  rfl

theorem rest_bar : bigSep ((rd X).duties (barCell c) 0 \ ∅) (fun k => (rd X).payload (barCell c) 0 k)
    = iprop(barPay c 0 ∗ barPay c 1 ∗ barPay c 2) := by
  rw [Finset.sdiff_empty, duties_bar, three]; rfl
theorem rest_send : bigSep ((rd X).duties (sendCell c j) 0 \ ∅) (fun k => (rd X).payload (sendCell c j) 0 k) = sendPay X c j := by
  rw [Finset.sdiff_empty, duties_send, bigSep_singleton, payload_send]
theorem rest_recv : bigSep ((rd X).duties (recvCell c j) 0 \ ∅) (fun k => (rd X).payload (recvCell c j) 0 k) = recvPay X c j := by
  rw [Finset.sdiff_empty, duties_recv, bigSep_singleton, payload_recv]

end Sched

/-! ## What each device owes at launch; the levels -/

/-- The credits of the three copies. -/
def Orecv (c : Dev nD) : CellTallies nD τ sig Unit :=
  tallyAt (recvCell (fwd 2 c) 2) () N + tallyAt (recvCell (fwd 1 c) 1) () N + tallyAt (recvCell (fwd 0 c) 0) () N
/-- The credits of the three copies and the units of the three signals. -/
def O₀ (c : Dev nD) : CellTallies nD τ sig Unit :=
  Orecv c + tallyAt (barCell (fwd 2 c)) () 1 + tallyAt (barCell (fwd 1 c)) () 1 + tallyAt (barCell (fwd 0 c)) () 1

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if 8 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 3) : lv (recvCell c j) () = 2 := if_pos (recv_ge j)

theorem tally_pos {g g' : GSem nD τ sig} {u : Unit} {n : ℕ} (h : 0 < (tallyAt g' () n : CellTallies nD τ sig Unit) g u) : g = g' := by
  rw [tallyAt_apply] at h
  by_contra hne
  rw [if_neg (fun e => hne e.1)] at h
  exact absurd h (Nat.lt_irrefl 0)

theorem Orecv_pos {c : Dev nD} {g : GSem nD τ sig} {u : Unit} (h : 0 < Orecv c g u) : ∃ j : Fin 3, g = recvCell (fwd j c) j := by
  unfold Orecv at h
  rw [Pi.add_apply, Finsupp.add_apply, Pi.add_apply, Finsupp.add_apply] at h
  rcases Nat.eq_zero_or_pos ((tallyAt (recvCell (fwd 2 c) 2) () N : CellTallies nD τ sig Unit) g u) with h2 | h2
  · rcases Nat.eq_zero_or_pos ((tallyAt (recvCell (fwd 1 c) 1) () N : CellTallies nD τ sig Unit) g u) with h1 | h1
    · rw [h2, h1] at h
      exact ⟨0, tally_pos (u := u) (n := N) (by omega)⟩
    · exact ⟨1, tally_pos h1⟩
  · exact ⟨2, tally_pos h2⟩

theorem mayWait_bar (c : Dev nD) :
    (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨j, rfl⟩ := Orecv_pos hg; rw [L_tc]; exact Finset.mem_singleton_self _)
    (fun p hp => by rw [Finset.mem_singleton.mp hp]; exact le_refl 1)
    (fun g u hg => by obtain ⟨j, rfl⟩ := Orecv_pos hg; rw [lv_recv]; decide)

end Cert.KernelIdeal.Paged

end
-- ==== Proof.Slots.lean ====
/-
  What a device writes: its slot of the scratch buffer, head by head, and the result, head by head.
-/
module

public import proofs.«01_k».proof.Proof.Common
public import Idealize.ShloMosaic.Lib.Pointwise
public import Idealize.ShloMosaic.Lib.Pipeline.ValueKit.Geometry

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The staged operands, and what is read of them for one head -/

abbrev kM : Memref sig .tc .vmem S64x16x8x64 .bf16 := Memref.whole cc0_stg0_0
abbrev vM : Memref sig .tc .vmem S64x16x8x64 .bf16 := Memref.whole cc0_stg1_0
abbrev qM : Memref sig .tc .vmem S8x8x64 .bf16 := Memref.whole cc0_stg2_0
abbrev wM : Memref sig .tc .vmem S1024x64 .f32 := Memref.whole cc0_stg3_0
abbrev oM : Memref sig .tc .vmem S8x1x8x64 .f32 := Memref.whole cc0_stg4_0

theorem kv_inb (h : Fin 8) : ∀ a : Fin 4, (![0, 0, h.val, 0] : Fin 4 → ℕ) a + S64x16x1x64.size a ≤ S64x16x8x64.size a := by
  revert h; decide
theorem q_inb (h : Fin 8) : ∀ a : Fin 3, (![h.val, 0, 0] : Fin 3 → ℕ) a + S1x8x64.size a ≤ S8x8x64.size a := by
  revert h; decide
theorem w_inb (h : Fin 8) : ∀ a : Fin 2, (![0, 8 * h.val] : Fin 2 → ℕ) a + S1024x8.size a ≤ S1024x64.size a := by
  revert h; decide
theorem o_inb (h : Fin 8) : ∀ a : Fin 4, (![0, 0, h.val, 0] : Fin 4 → ℕ) a + S8x1x1x64.size a ≤ S8x1x8x64.size a := by
  revert h; decide

variable (kb vb : S64x16x8x64.Idx → Elt F .bf16) (qb : S8x8x64.Idx → Elt F .bf16) (wb : S1024x64.Idx → Elt F .f32)

/-- Head `h` of the keys' pages. -/
def ldK (h : Fin 8) : Vec F S64x16x1x64 .bf16 :=
  kM.view.readAt (Elt F) (Rect.unit (s := S64x16x8x64) ![0, 0, h.val, 0] S64x16x1x64.size (kv_inb h)).toLoadRect kb
/-- Head `h` of the values' pages. -/
def ldV (h : Fin 8) : Vec F S64x16x1x64 .bf16 :=
  vM.view.readAt (Elt F) (Rect.unit (s := S64x16x8x64) ![0, 0, h.val, 0] S64x16x1x64.size (kv_inb h)).toLoadRect vb
/-- The queries of head `h`. -/
def ldQ (h : Fin 8) : Vec F S1x8x64 .bf16 :=
  qM.view.readAt (Elt F) (Rect.unit (s := S8x8x64) ![h.val, 0, 0] S1x8x64.size (q_inb h)).toLoadRect qb
/-- The counts of head `h`. -/
def ldW (h : Fin 8) : Vec F S1024x8 .f32 :=
  wM.view.readAt (Elt F) (Rect.unit (s := S1024x64) ![0, 8 * h.val] S1024x8.size (w_inb h)).toLoadRect wb

/-- What the device stores for head `h`: the weighted values, the maxima, the sums. -/
def payO (h : Fin 8) : FVec F S1x8x64 .f32 := k0_pay19 (ldK kb h) (ldQ qb h) (ldW wb h) (ldV vb h)
def payM (h : Fin 8) : FVec F S1x1x8 .f32 := k0_pay20 (ldK kb h) (ldQ qb h) (ldW wb h)
def payL (h : Fin 8) : FVec F S1x1x8 .f32 := k0_pay21 (k0_pay18 (ldK kb h) (ldQ qb h) (ldW wb h))

/-- The slot a device fills from its operands: rows 0–63 the weighted values, row 64 the maxima, row 65 the sums. -/
def slotVal : Fin 66 → Fin 64 → Elt F .f32 := fun r n =>
  if hr : r.val < 64 then payO kb vb qb wb ⟨r.val / 8, by omega⟩ (ix3 (0 : Fin 1) (⟨r.val % 8, Nat.mod_lt _ (by decide)⟩ : Fin 8) n)
  else if r.val = 64 then payM kb qb wb ⟨n.val / 8, by have := n.isLt; omega⟩ (ix3 (0 : Fin 1) (0 : Fin 1) (⟨n.val % 8, Nat.mod_lt _ (by decide)⟩ : Fin 8))
  else payL kb qb wb ⟨n.val / 8, by have := n.isLt; omega⟩ (ix3 (0 : Fin 1) (0 : Fin 1) (⟨n.val % 8, Nat.mod_lt _ (by decide)⟩ : Fin 8))

/-! ## A store through a rectangle, at an index -/

section Store

variable (f : S4x66x64.Idx → Elt F .f32) (off size : Fin 3 → ℕ) (inb : ∀ a, off a + size a ≤ S4x66x64.size a)
  (w : (Rect.unit (s := S4x66x64) off size inb).shape.Idx → Elt F .f32)

/-- The scratch buffer after a store of `w`. -/
abbrev stored : S4x66x64.Idx → Elt F .f32 :=
  (comm.access (Rect.unit (s := S4x66x64) off size inb)).write (Elt F) f w Finset.univ

theorem stored_in (i : S4x66x64.Idx) (x : (Rect.unit (s := S4x66x64) off size inb).shape.Idx)
    (hx : ∀ a, (i a).val = off a + (x a).val) : stored f off size inb w i = w x := by
  have e : i = (comm.access (Rect.unit (s := S4x66x64) off size inb)).emb x := by
    funext a
    exact Fin.ext ((hx a).trans (ValueKit.view_emb_slice_whole_unit_val cc0_scratch0 off size inb x a).symm)
  subst e
  show (comm.access (Rect.unit (s := S4x66x64) off size inb)).write (Elt F) f w Finset.univ _ = _
  rw [View.write_emb_of_mem _ _ (Finset.mem_univ x)]
  rfl

theorem stored_out (i : S4x66x64.Idx) (a : Fin 3) (ha : (i a).val < off a ∨ off a + size a ≤ (i a).val) :
    stored f off size inb w i = f i := by
  refine View.write_of_not_mem _ _ _ fun hmem => ?_
  obtain ⟨x, -, e⟩ := Finset.mem_map.mp hmem
  have h1 := ValueKit.view_emb_slice_whole_unit_val cc0_scratch0 off size inb x a
  have h2 : (x a).val < size a := (x a).isLt
  have h3 : (i a).val = off a + (x a).val := by rw [← e]; exact h1
  omega

end Store

/-- The heads before `h` are in slot `z` of `f`. -/
def Done (val : Fin 66 → Fin 64 → Elt F .f32) (z : Fin 4) (h : ℕ) (f : S4x66x64.Idx → Elt F .f32) : Prop :=
  ∀ i : S4x66x64.Idx, (i 0).val = z.val →
    (((i 1).val < 64 → (i 1).val / 8 < h → f i = val (i 1) (i 2)) ∧ (64 ≤ (i 1).val → (i 2).val / 8 < h → f i = val (i 1) (i 2)))

theorem done_zero (val : Fin 66 → Fin 64 → Elt F .f32) (z : Fin 4) (f : S4x66x64.Idx → Elt F .f32) : Done val z 0 f :=
  fun _ _ => ⟨fun _ h => absurd h (Nat.not_lt_zero _), fun _ h => absurd h (Nat.not_lt_zero _)⟩

/-- The three stores of head `h` put it in the slot and leave the earlier heads there. -/
theorem done_step (z : Fin 4) (h : Fin 8) (f : S4x66x64.Idx → Elt F .f32)
    (hf : Done (slotVal kb vb qb wb) z h.val f) (o1 o2 o3 : Fin 3 → ℕ)
    (e1 : o1 = ![z.val, 8 * h.val, 0]) (e2 : o2 = ![z.val, 64, 8 * h.val]) (e3 : o3 = ![z.val, 65, 8 * h.val])
    (i1 : ∀ a, o1 a + S1x8x64.size a ≤ S4x66x64.size a) (i2 : ∀ a, o2 a + S1x1x8.size a ≤ S4x66x64.size a)
    (i3 : ∀ a, o3 a + S1x1x8.size a ≤ S4x66x64.size a)
    (w1 : FVec F S1x8x64 .f32) (w2 w3 : FVec F S1x1x8 .f32)
    (h1 : w1 = payO kb vb qb wb h) (h2 : w2 = payM kb qb wb h) (h3 : w3 = payL kb qb wb h) :
    Done (slotVal kb vb qb wb) z (h.val + 1)
      (stored (stored (stored f o1 S1x8x64.size i1 w1) o2 S1x1x8.size i2 w2) o3 S1x1x8.size i3 w3) := by
  subst e1; subst e2; subst e3; subst h1; subst h2; subst h3
  intro i hz
  have b1 : (i 1).val < 66 := (i 1).isLt
  have b2 : (i 2).val < 64 := (i 2).isLt
  constructor
  · intro hr hlt
    have c1 : (![z.val, 64, 8 * h.val] : Fin 3 → ℕ) 1 = 64 := rfl
    have c2 : (![z.val, 65, 8 * h.val] : Fin 3 → ℕ) 1 = 65 := rfl
    rw [stored_out _ _ _ _ _ i 1 (Or.inl (by rw [c2]; omega)), stored_out _ _ _ _ _ i 1 (Or.inl (by rw [c1]; omega))]
    by_cases hh : (i 1).val / 8 = h.val
    · have hx : ∀ a, (i a).val = (![z.val, 8 * h.val, 0] : Fin 3 → ℕ) a
          + ((ix3 (0 : Fin 1) (⟨(i 1).val % 8, Nat.mod_lt _ (by decide)⟩ : Fin 8) (i 2) : S1x8x64.Idx) a).val := by
        intro a
        fin_cases a
        · exact hz
        · show (i 1).val = 8 * h.val + (i 1).val % 8
          omega
        · show (i 2).val = 0 + (i 2).val
          omega
      refine (stored_in _ _ _ _ _ i (ix3 (0 : Fin 1) (⟨(i 1).val % 8, Nat.mod_lt _ (by decide)⟩ : Fin 8) (i 2) : S1x8x64.Idx) hx).trans ?_
      unfold slotVal
      rw [dif_pos hr]
      exact congrArg (fun k => payO kb vb qb wb k _) (Fin.ext hh.symm)
    · have c3 : (![z.val, 8 * h.val, 0] : Fin 3 → ℕ) 1 = 8 * h.val := rfl
      rw [stored_out _ _ _ _ _ i 1 (Or.inl (by rw [c3]; omega))]
      exact (hf i hz).1 hr (by omega)
  · intro hr hlt
    have s1 : S1x8x64.size 1 = 8 := rfl
    have s2 : S1x1x8.size 2 = 8 := rfl
    have s3 : S1x1x8.size 1 = 1 := rfl
    have c1 : (![z.val, 64, 8 * h.val] : Fin 3 → ℕ) 1 = 64 := rfl
    have c2 : (![z.val, 65, 8 * h.val] : Fin 3 → ℕ) 1 = 65 := rfl
    have c3 : (![z.val, 8 * h.val, 0] : Fin 3 → ℕ) 1 = 8 * h.val := rfl
    have d1 : (![z.val, 64, 8 * h.val] : Fin 3 → ℕ) 2 = 8 * h.val := rfl
    have d2 : (![z.val, 65, 8 * h.val] : Fin 3 → ℕ) 2 = 8 * h.val := rfl
    have bh := h.isLt
    by_cases hh : (i 2).val / 8 = h.val
    · by_cases h64 : (i 1).val = 64
      · rw [stored_out _ _ _ _ _ i 1 (Or.inl (by rw [c2]; omega))]
        have hx : ∀ a, (i a).val = (![z.val, 64, 8 * h.val] : Fin 3 → ℕ) a
            + ((ix3 (0 : Fin 1) (0 : Fin 1) (⟨(i 2).val % 8, Nat.mod_lt _ (by decide)⟩ : Fin 8) : S1x1x8.Idx) a).val := by
          intro a
          fin_cases a
          · exact hz
          · exact h64
          · show (i 2).val = 8 * h.val + (i 2).val % 8
            omega
        refine (stored_in _ _ _ _ _ i (ix3 (0 : Fin 1) (0 : Fin 1) (⟨(i 2).val % 8, Nat.mod_lt _ (by decide)⟩ : Fin 8) : S1x1x8.Idx) hx).trans ?_
        unfold slotVal
        rw [dif_neg (by omega), if_pos h64]
        exact congrArg (fun k => payM kb qb wb k _) (Fin.ext hh.symm)
      · have h65 : (i 1).val = 65 := by omega
        have hx : ∀ a, (i a).val = (![z.val, 65, 8 * h.val] : Fin 3 → ℕ) a
            + ((ix3 (0 : Fin 1) (0 : Fin 1) (⟨(i 2).val % 8, Nat.mod_lt _ (by decide)⟩ : Fin 8) : S1x1x8.Idx) a).val := by
          intro a
          fin_cases a
          · exact hz
          · exact h65
          · show (i 2).val = 8 * h.val + (i 2).val % 8
            omega
        refine (stored_in _ _ _ _ _ i (ix3 (0 : Fin 1) (0 : Fin 1) (⟨(i 2).val % 8, Nat.mod_lt _ (by decide)⟩ : Fin 8) : S1x1x8.Idx) hx).trans ?_
        unfold slotVal
        rw [dif_neg (by omega), if_neg h64]
        exact congrArg (fun k => payL kb qb wb k _) (Fin.ext hh.symm)
    · rw [stored_out _ _ _ _ _ i 2 (Or.inl (by rw [d2]; omega)), stored_out _ _ _ _ _ i 2 (Or.inl (by rw [d1]; omega)),
        stored_out _ _ _ _ _ i 1 (Or.inr (by rw [c3, s1]; omega))]
      exact (hf i hz).2 hr (by omega)

/-- With all eight heads stored the slot holds what the exchange will carry. -/
theorem done_all (X : Dev nD → Fin 66 → Fin 64 → Elt F .f32) (c : Dev nD) (f : S4x66x64.Idx → Elt F .f32)
    (hf : Done (X c) (place c) 8 f) : ∀ i ∈ slotSet (place c), f i = (commBuf X c : S4x66x64.Idx → Elt F .f32) i := by
  intro i hi
  have hz := (mem_slotSet _ i).mp hi
  have b1 : (i 1).val < 66 := (i 1).isLt
  have b2 : (i 2).val < 64 := (i 2).isLt
  have e : f i = X c (i 1) (i 2) := by
    by_cases h : (i 1).val < 64
    · exact (hf i hz).1 h (by omega)
    · exact (hf i hz).2 (by omega) (by omega)
  rw [e]
  show _ = X (onLine c (i 0)) (i 1) (i 2)
  rw [show (i 0) = place c from Fin.ext hz, onLine_place]

/-! ## The combination -/

theorem m_inb (r : ℕ) (hr : r < 66) (p : Fin 4) : ∀ a : Fin 3, (![p.val, r, 0] : Fin 3 → ℕ) a + S1x1x64.size a ≤ S4x66x64.size a := by
  intro a
  fin_cases a
  · show p.val + 1 ≤ 4
    omega
  · show r + 1 ≤ 66
    omega
  · show 0 + 64 ≤ 64
    omega
theorem ob_inb (p : Fin 4) : ∀ a : Fin 3, (![p.val, 0, 0] : Fin 3 → ℕ) a + S1x64x64.size a ≤ S4x66x64.size a := by
  revert p; decide

/-- Row `r` of slot `p`, and the block of slot `p`. -/
def ldRow (g : S4x66x64.Idx → Elt F .f32) (r : ℕ) (hr : r < 66) (p : Fin 4) : Vec F S1x1x64 .f32 :=
  comm.view.readAt (Elt F) (Rect.unit (s := S4x66x64) ![p.val, r, 0] S1x1x64.size (m_inb r hr p)).toLoadRect g
def ldBlk (g : S4x66x64.Idx → Elt F .f32) (p : Fin 4) : Vec F S1x64x64 .f32 :=
  comm.view.readAt (Elt F) (Rect.unit (s := S4x66x64) ![p.val, 0, 0] S1x64x64.size (ob_inb p)).toLoadRect g

/-- What the device computes from the four slots, a row per head and query. -/
def combine (g : S4x66x64.Idx → Elt F .f32) : FVec F S64x64 .f32 :=
  have m0 := k0_pay73 (ldRow g 64 (by decide) 0)
  have m1 := k0_pay74 (ldRow g 64 (by decide) 1)
  have m2 := k0_pay75 (ldRow g 64 (by decide) 2)
  have m3 := ldRow g 64 (by decide) 3
  k0_pay84 (k0_pay79 m0 m1 m2 m3) (k0_pay80 m0 m1 m2 m3) (k0_pay81 m0 m1 m2 m3)
    (k0_pay82 m0 m1 m2 m3 (ldRow g 65 (by decide) 0) (ldRow g 65 (by decide) 1) (ldRow g 65 (by decide) 2) (ldRow g 65 (by decide) 3))
    (k0_pay83 m0 m1 m2 m3 (ldBlk g 0)) (ldBlk g 1) (ldBlk g 2) (ldBlk g 3)

/-- The result: the combination's row `8h + b` at query `b` and head `h`. -/
def outBuf (g : S4x66x64.Idx → Elt F .f32) : S8x1x8x64.Idx → Elt F .f32 := fun i =>
  combine g (ix2 (⟨8 * (i 2).val + (i 0).val, by have h0 : (i 0).val < 8 := (i 0).isLt; have h2 : (i 2).val < 8 := (i 2).isLt; omega⟩ : Fin 64) (i 3))

section Out

variable (f : S8x1x8x64.Idx → Elt F .f32) (off : Fin 4 → ℕ) (inb : ∀ a, off a + S8x1x1x64.size a ≤ S8x1x8x64.size a)
  (w : S8x1x1x64.Idx → Elt F .f32)

/-- The result buffer after a store of `w`. -/
abbrev storedO : S8x1x8x64.Idx → Elt F .f32 :=
  (oM.access (Rect.unit (s := S8x1x8x64) off S8x1x1x64.size inb)).write (Elt F) f w Finset.univ

theorem storedO_in (i : S8x1x8x64.Idx) (x : S8x1x1x64.Idx)
    (hx : ∀ a, (i a).val = off a + (x a).val) : storedO f off inb w i = w x := by
  have e : i = (oM.access (Rect.unit (s := S8x1x8x64) off S8x1x1x64.size inb)).emb x := by
    funext a
    exact Fin.ext ((hx a).trans (ValueKit.view_emb_slice_whole_unit_val cc0_stg4_0 off S8x1x1x64.size inb x a).symm)
  subst e
  show (oM.access (Rect.unit (s := S8x1x8x64) off S8x1x1x64.size inb)).write (Elt F) f w Finset.univ _ = _
  rw [View.write_emb_of_mem _ _ (Finset.mem_univ x)]
  rfl

theorem storedO_out (i : S8x1x8x64.Idx) (a : Fin 4) (ha : (i a).val < off a ∨ off a + S8x1x1x64.size a ≤ (i a).val) :
    storedO f off inb w i = f i := by
  refine View.write_of_not_mem _ _ _ fun hmem => ?_
  obtain ⟨x, -, e⟩ := Finset.mem_map.mp hmem
  have h1 := ValueKit.view_emb_slice_whole_unit_val cc0_stg4_0 off S8x1x1x64.size inb x a
  have h2 : (x a).val < S8x1x1x64.size a := (x a).isLt
  have h3 : (i a).val = off a + (x a).val := by rw [← e]; exact h1
  omega

end Out

/-- The heads before `h` of the result are stored. -/
def DoneO (g : S4x66x64.Idx → Elt F .f32) (h : ℕ) (f : S8x1x8x64.Idx → Elt F .f32) : Prop :=
  ∀ i : S8x1x8x64.Idx, (i 2).val < h → f i = outBuf g i

theorem doneO_step (g : S4x66x64.Idx → Elt F .f32) (h : Fin 8) (f : S8x1x8x64.Idx → Elt F .f32) (hf : DoneO g h.val f)
    (w : S8x1x1x64.Idx → Elt F .f32)
    (hs : Shape.Slices S64x64 ![8 * h.val, 0] S8x64) (hw : w = shapeCast S8x1x1x64 (extractStridedSlice S8x64 ![8 * h.val, 0] (combine g) hs) shapeCasts_S8x64_S8x1x1x64) :
    DoneO g (h.val + 1) (storedO f ![0, 0, h.val, 0] (o_inb h) w) := by
  subst hw
  intro i hlt
  have c2 : (![0, 0, h.val, 0] : Fin 4 → ℕ) 2 = h.val := rfl
  have b0 : (i 0).val < 8 := (i 0).isLt
  have b1 : (i 1).val < 1 := (i 1).isLt
  by_cases hh : (i 2).val = h.val
  · have hx : ∀ a, (i a).val = (![0, 0, h.val, 0] : Fin 4 → ℕ) a + ((ix4 (i 0) (0 : Fin 1) (0 : Fin 1) (i 3) : S8x1x1x64.Idx) a).val := by
      intro a
      fin_cases a
      · exact (Nat.zero_add _).symm
      · show (i 1).val = 0 + 0
        omega
      · exact hh
      · exact (Nat.zero_add _).symm
    refine (storedO_in _ _ _ _ i (ix4 (i 0) (0 : Fin 1) (0 : Fin 1) (i 3) : S8x1x1x64.Idx) hx).trans ?_
    unfold outBuf
    have e : (⟨8 * (i 2).val + (i 0).val, by have h2 : (i 2).val < 8 := (i 2).isLt; omega⟩ : Fin 64)
        = ⟨8 * h.val + (i 0).val, by have := h.isLt; omega⟩ := Fin.ext (by show 8 * (i 2).val + (i 0).val = 8 * h.val + (i 0).val; rw [hh])
    rw [e]
    pointwise
  · rw [storedO_out _ _ _ _ i 2 (Or.inl (by rw [c2]; omega))]
    exact hf i (by omega)

theorem doneO_all (g : S4x66x64.Idx → Elt F .f32) (f : S8x1x8x64.Idx → Elt F .f32) (hf : DoneO g 8 f) : f = outBuf g :=
  funext fun i => hf i (i 2).isLt

end Cert.KernelIdeal.Paged

end
-- ==== Proof.Body.lean ====
/-
  The body of the kernel at a device: its eight heads stored in its slot, the exchange, the eight heads of the result.
-/
module

public import proofs.«01_k».proof.Proof.Slots

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (X : Dev nD → Fin 66 → Fin 64 → Elt F .f32) (κ : GSem nD τ sig → ℕ)

/-! ## What every device knows of the cells -/

/-- All cells of the exchange are shared, and round 0 of every barrier is reached. -/
def records : sProp 𝕄 :=
  iprop((bigSep Finset.univ fun c : Dev nD => cellInv ER (rd X) (κ (barCell c)) (barCell c))
    ∗ (bigSep Finset.univ fun p : Dev nD × Fin 3 => cellInv ER (rd X) (κ (sendCell p.1 p.2)) (sendCell p.1 p.2))
    ∗ (bigSep Finset.univ fun p : Dev nD × Fin 3 => cellInv ER (rd X) (κ (recvCell p.1 p.2)) (recvCell p.1 p.2))
    ∗ (bigSep Finset.univ fun c : Dev nD => reached ER (barCell c) 0))

instance records_persistent : BI.Persistent (records X κ) := by unfold records; infer_instance

theorem each {ι : Type} [Fintype ι] [DecidableEq ι] (Φ : ι → sProp 𝕄) (i : ι) : bigSep Finset.univ Φ ⊢ Φ i := bigSep_elim (Finset.mem_univ i)

theorem inv_bar (c : Dev nD) : records X κ ⊢ cellInv ER (rd X) (κ (barCell c)) (barCell c) := by
  unfold records
  iintro ⟨H, -⟩
  ihave H' := (each (F := F) _ c) $$ H
  iexact H'
theorem inv_send (c : Dev nD) (j : Fin 3) : records X κ ⊢ cellInv ER (rd X) (κ (sendCell c j)) (sendCell c j) := by
  unfold records
  iintro ⟨-, H, -⟩
  ihave H' := (each (F := F) _ (c, j)) $$ H
  iexact H'
theorem inv_recv (c : Dev nD) (j : Fin 3) : records X κ ⊢ cellInv ER (rd X) (κ (recvCell c j)) (recvCell c j) := by
  unfold records
  iintro ⟨-, -, H, -⟩
  ihave H' := (each (F := F) _ (c, j)) $$ H
  iexact H'
theorem reached_bar (c : Dev nD) : records X κ ⊢ reached ER (barCell c) 0 := by
  unfold records
  iintro ⟨-, -, -, H⟩
  ihave H' := (each (F := F) _ c) $$ H
  iexact H'

/-! ## The steps of the exchange -/

variable (c n : Dev nD) (W : Waits sig Unit)

/-- Signal `k` hands the device `k + 1` places on its slot of this device, and that its copy may arrive. -/
theorem wp_sig {α : Type} {Kt : α → sProp 𝕄} {K : PUnit → Prog (TpuEff nD τ sig (Elt F) Λ₀ .tc) α} (k : Fin 3) (hn : n = fwd k c) (O : CellTallies nD τ sig Unit) :
    iprop(records X κ ∗ owes (c : Thread nD τ) (O + tallyAt (barCell (fwd k c)) () 1) W ∗ dutyTok ER (barCell (fwd k c)) 0 k
        ∗ (∃ f, slotPts c (place (fwd k c)) fullShare f) ∗ reached ER (recvCell c k.rev) 0)
      ⊢ iprop((owes (c : Thread nD τ) O W -∗ wp frame (wpE (defs₀ (F := F)) 𝒱₀ (c : Thread nD τ) none) Set.univ (K ⟨⟩) Kt)
          -∗ wp frame (wpE (defs₀ (F := F)) 𝒱₀ (c : Thread nD τ) none) Set.univ (.op (.semSignal (n, .tc) barS (1#32 : BitVec 32).toInt) K) Kt) := by
  subst hn
  iintro ⟨#HI, HO, Ht, Hs, Hr⟩
  iapply (Rounds.wp_signal 𝒱₀ ER (rd X) (c : Thread nD τ) none (dst := (fwd k c : Thread nD τ)) (sem := barS) (r := 0) (d := k) (κ := κ (barCell (fwd k c)))
      (by rw [duties_bar]; exact Finset.mem_univ k) ((amount_bar X (fwd k c) k).trans (by decide)) () O rfl)
  isplitr; · iapply (inv_bar X κ (fwd k c)); iexact HI
  isplitl [HO]; · iexact HO
  isplitl [Ht]; · iexact Ht
  isplitl [Hs Hr]
  · rw [payload_bar]; unfold barPay; rw [bwd_fwd]
    isplitl [Hs]; · iexact Hs
    iexact Hr
  · iapply (reached_bar X κ (fwd k c)); iexact HI

/-- The wait on the barrier: the three others give their slots. -/
theorem wp_barrier {α : Type} {Kt : α → sProp 𝕄} {K : PUnit → Prog (TpuEff nD τ sig (Elt F) Λ₀ .tc) α} :
    iprop(records X κ ∗ levAts L lv ∗ cred (tallyAt (barCell c) () 3) ∗ owes (c : Thread nD τ) (Orecv c) W ∗ atPos ER (barCell c) 0 ∅ 0)
      ⊢ iprop(((∃ W', owes (c : Thread nD τ) (Orecv c) W') ∗ atPos ER (barCell c) (0 + 1) ∅ 0 ∗ barPay c 0 ∗ barPay c 1 ∗ barPay c 2
            -∗ wp frame (wpE (defs₀ (F := F)) 𝒱₀ (c : Thread nD τ) none) Set.univ (K ⟨⟩) Kt)
          -∗ wp frame (wpE (defs₀ (F := F)) 𝒱₀ (c : Thread nD τ) none) Set.univ (.op (.semWait barS (3#32 : BitVec 32).toInt) K) Kt) := by
  iintro ⟨#HI, #Hlev, Hc, HO, Hat⟩ Hk
  iapply (Rounds.wp_wait_rest_token 𝒱₀ ER (rd X) (c : Thread nD τ) none (κ := κ (barCell c))
      (wpE_semWait_eq 𝒱₀ (c : Thread nD τ) none Set.univ) (Set.mem_univ _) () (O := Orecv c) (W := W) (R := 0) (m := 0) (T := ∅)
      ((Nat.zero_add _).trans ((by decide : (3 : ℕ) = 3).trans (expect_bar X c).symm))) $$ [Hc HO Hat]
  · isplitr; · iapply (inv_bar X κ c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexists _; iexact HO
  isplitl [Hat]; · iexact Hat
  iexact Hp

variable (off : Fin 3 → ℕ) (hoff : off = ![(place c).val, 0, 0]) (inb : ∀ a, off a + S1x66x64.size a ≤ S4x66x64.size a)

/-- A slot of the scratch buffer, wherever it starts. -/
abbrev slotAt : Memref sig .tc .vmem S1x66x64 .f32 :=
  comm.slice (Rect.unit (s := S4x66x64) off S1x66x64.size inb) (fun _ => rfl)

include hoff in
/-- Copy `j` carries the slot of this device to the device `j + 1` places on. -/
theorem wp_copy {α : Type} {Kt : α → sProp 𝕄} {K : PUnit → Prog (TpuEff nD τ sig (Elt F) Λ₀ .tc) α} (j : Fin 3) (hn : n = fwd j c) (O : CellTallies nD τ sig Unit)
    {hsc : (slotAt off inb).view.ref.isScScratch = false}
    {hsrc hdst : (slotAt off inb).view.WordExact}
    {hsem : DmaTarget.Typed .vmem (.dma (recvS j)) (.remote (Dev.tc n : Thread nD τ) (slotAt off inb) (.dma (sendS j)) hsc)} :
    iprop(records X κ ∗ slotPts c (place c) (piece j) (commBuf X c) ∗ (∃ f, slotPts (fwd j c) (place c) fullShare f)
        ∗ owes (c : Thread nD τ) (O + tallyAt (recvCell (fwd j c) j) () N) W
        ∗ dutyTok ER (sendCell c j) 0 0 ∗ reached ER (sendCell c j) 0 ∗ dutyTok ER (recvCell (fwd j c) j) 0 0 ∗ reached ER (recvCell (fwd j c) j) 0)
      ⊢ iprop((cred (tallyAt (sendCell c j) () N) ∗ owes (c : Thread nD τ) O W -∗ wp frame (wpE (defs₀ (F := F)) 𝒱₀ (c : Thread nD τ) none) Set.univ (K ⟨⟩) Kt)
          -∗ wp frame (wpE (defs₀ (F := F)) 𝒱₀ (c : Thread nD τ) none) Set.univ
            (.op (.enqueueDma (slotAt off inb) (.remote (Dev.tc n : Thread nD τ) (slotAt off inb) (.dma (sendS j)) hsc) (.dma (recvS j)) hsrc hdst hsem) K) Kt) := by
  subst hoff; subst hn
  iintro ⟨#HI, Hs, ⟨%f, Hd⟩, HO, Ht, #Hr, Ht', #Hr'⟩
  iapply (Rounds.wp_send_pointsTo 𝒱₀ ER (rd X) (c : Thread nD τ) none (c' := (fwd j c : Thread nD τ)) (src := slotM (place c)) (dst := slotM (place c))
      (sS := .dma (sendS j)) (sem := .dma (recvS j)) (q := piece j) (fs := commBuf X c) (κ₁ := κ (sendCell c j)) (κ₂ := κ (recvCell (fwd j c) j))
      (r₁ := 0) (r₂ := 0) (d₁ := 0) (d₂ := 0) (fd := f)
      (by rw [duties_send]; exact Finset.mem_singleton_self _) (by rw [duties_recv]; exact Finset.mem_singleton_self _)
      () () N rfl (amount_send X c j 0) (amount_recv X (fwd j c) j 0) O rfl (W := W)
      (by rw [payload_send]; exact BI.Entails.refl _)
      (by rw [payload_recv]; unfold recvPay slotPts; rw [bwd_fwd]
          exact Entails.of_eq (pointsTo_congr (landed_congr X c (fwd j c) (place c) rfl ((onLine_fwd j c (place c)).trans (onLine_place c)) f))))
  isplitr; · iapply (inv_send X κ c j); iexact HI
  isplitr; · iapply (inv_recv X κ (fwd j c) j); iexact HI
  isplitl [Hs]; · iexact Hs
  isplitl [Hd]; · iexact Hd
  isplitl [HO]; · iexact HO
  isplitl [Ht]; · iexact Ht
  isplitr; · iexact Hr
  isplitl [Ht']; · iexact Ht'
  iexact Hr'

/-- The wait for the own copy `j`. -/
theorem wp_sent {α : Type} {Kt : α → sProp 𝕄} {K : PUnit → Prog (TpuEff nD τ sig (Elt F) Λ₀ .tc) α} (j : Fin 3) {h₁ h₂ : (slotAt off inb).view.WordExact} :
    iprop(records X κ ∗ cred (tallyAt (sendCell c j) () N) ∗ (∃ W, owes (c : Thread nD τ) 0 W) ∗ atPos ER (sendCell c j) 0 ∅ 0)
      ⊢ iprop(((∃ W', owes (c : Thread nD τ) 0 W') ∗ atPos ER (sendCell c j) (0 + 1) ∅ 0 ∗ sendPay X c j
            -∗ wp frame (wpE (defs₀ (F := F)) 𝒱₀ (c : Thread nD τ) none) Set.univ (K ⟨⟩) Kt)
          -∗ wp frame (wpE (defs₀ (F := F)) 𝒱₀ (c : Thread nD τ) none) Set.univ (.op (.waitDma2 (sendS j) (slotAt off inb) (slotAt off inb) h₁ h₂) K) Kt) := by
  iintro ⟨#HI, Hc, ⟨%W, HO⟩, Hat⟩ Hk
  iapply (Rounds.wp_wait_rest_token 𝒱₀ ER (rd X) (c : Thread nD τ) none (κ := κ (sendCell c j))
      (wpE_waitDma2_eq (src := slotAt off inb) (dst := slotAt off inb) 𝒱₀ (c : Thread nD τ) none Set.univ) (Set.mem_univ _) () (O := 0) (W := W) (R := 0) (m := 0) (T := ∅)
      ((Nat.zero_add _).trans (expect_send X c j).symm)) $$ [Hc HO Hat]
  · isplitr; · iapply (inv_send X κ c j); iexact HI
    isplitl [Hc]; · iexact Hc
    isplitl [HO]; · iexact HO
    isplitr; · rw [MayWait_zero]; iempintro
    iexact Hat
  iintro ⟨HO, Hat, -, Hpay⟩
  ihave Hp := (Entails.of_eq (rest_send X c j)) $$ Hpay
  iapply Hk
  isplitl [HO]; · iexists _; iexact HO
  isplitl [Hat]; · iexact Hat
  iexact Hp

/-- The wait for the copy `j` of the device `j + 1` places back. -/
theorem wp_received {α : Type} {Kt : α → sProp 𝕄} {K : PUnit → Prog (TpuEff nD τ sig (Elt F) Λ₀ .tc) α} (j : Fin 3) {h₁ h₂ : (slotAt off inb).view.WordExact} :
    iprop(records X κ ∗ cred (tallyAt (recvCell c j) () N) ∗ (∃ W, owes (c : Thread nD τ) 0 W) ∗ atPos ER (recvCell c j) 0 ∅ 0)
      ⊢ iprop(((∃ W', owes (c : Thread nD τ) 0 W') ∗ atPos ER (recvCell c j) (0 + 1) ∅ 0 ∗ recvPay X c j
            -∗ wp frame (wpE (defs₀ (F := F)) 𝒱₀ (c : Thread nD τ) none) Set.univ (K ⟨⟩) Kt)
          -∗ wp frame (wpE (defs₀ (F := F)) 𝒱₀ (c : Thread nD τ) none) Set.univ (.op (.waitDma2 (recvS j) (slotAt off inb) (slotAt off inb) h₁ h₂) K) Kt) := by
  iintro ⟨#HI, Hc, ⟨%W, HO⟩, Hat⟩ Hk
  iapply (Rounds.wp_wait_rest_token 𝒱₀ ER (rd X) (c : Thread nD τ) none (κ := κ (recvCell c j))
      (wpE_waitDma2_eq (src := slotAt off inb) (dst := slotAt off inb) 𝒱₀ (c : Thread nD τ) none Set.univ) (Set.mem_univ _) () (O := 0) (W := W) (R := 0) (m := 0) (T := ∅)
      ((Nat.zero_add _).trans (expect_recv X c j).symm)) $$ [Hc HO Hat]
  · isplitr; · iapply (inv_recv X κ c j); iexact HI
    isplitl [Hc]; · iexact Hc
    isplitl [HO]; · iexact HO
    isplitr; · rw [MayWait_zero]; iempintro
    iexact Hat
  iintro ⟨HO, Hat, -, Hpay⟩
  ihave Hp := (Entails.of_eq (rest_recv X c j)) $$ Hpay
  iapply Hk
  isplitl [HO]; · iexists _; iexact HO
  isplitl [Hat]; · iexact Hat
  iexact Hp

theorem close (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

/-! ## The heads -/

/-- The staged operands in hand. -/
def operands (kb vb : S64x16x8x64.Idx → Elt F .bf16) (qb : S8x8x64.Idx → Elt F .bf16) (wb : S1024x64.Idx → Elt F .f32) : sProp 𝕄 :=
  iprop((kM.view.loc (c : Thread nD τ) ↦{fullShare} kb) ∗ (vM.view.loc (c : Thread nD τ) ↦{fullShare} vb)
    ∗ (qM.view.loc (c : Thread nD τ) ↦{fullShare} qb) ∗ (wM.view.loc (c : Thread nD τ) ↦{fullShare} wb))

/-- The device's own slot with the heads before `h` stored. -/
def own (val : Fin 66 → Fin 64 → Elt F .f32) (h : ℕ) : sProp 𝕄 :=
  iprop(∃ f : S4x66x64.Idx → Elt F .f32, ⌜Done val (place c) h f⌝ ∗ slotPts c (place c) fullShare f)

theorem access_sub (z : Fin 4) (off size : Fin 3 → ℕ) (inb : ∀ a, off a + size a ≤ S4x66x64.size a) (h0 : off 0 = z.val) (h1 : size 0 = 1) :
    (comm.access (Rect.unit (s := S4x66x64) off size inb)).set ⊆ slotSet z := by
  intro i hi
  obtain ⟨x, -, e⟩ := Finset.mem_map.mp hi
  have h2 := ValueKit.view_emb_slice_whole_unit_val cc0_scratch0 off size inb x 0
  have h3 : (x 0).val < size 0 := (x 0).isLt
  have h4 : (i 0).val = off 0 + (x 0).val := by rw [← e]; exact h2
  exact (mem_slotSet z i).mpr (by omega)

set_option maxHeartbeats 800000 in
/-- One head: the four operand loads, and the three stores into the own slot, each after a load nothing uses. -/
theorem wp_head {α : Type} {Kt : α → sProp 𝕄} {K : PUnit → Prog (TpuEff nD τ sig (Elt F) Λ₀ .tc) α} (h : Fin 8)
    (kb vb : S64x16x8x64.Idx → Elt F .bf16) (qb : S8x8x64.Idx → Elt F .bf16) (wb : S1024x64.Idx → Elt F .f32)
    {oK oV : Fin 4 → ℕ} {oQ : Fin 3 → ℕ} {oW : Fin 2 → ℕ} {o1 o2 o3 : Fin 3 → ℕ}
    (eK : oK = ![0, 0, h.val, 0]) (eV : oV = ![0, 0, h.val, 0]) (eQ : oQ = ![h.val, 0, 0]) (eW : oW = ![0, 8 * h.val])
    (e1 : o1 = ![(place c).val, 8 * h.val, 0]) (e2 : o2 = ![(place c).val, 64, 8 * h.val]) (e3 : o3 = ![(place c).val, 65, 8 * h.val])
    {iK : ∀ a, oK a + S64x16x1x64.size a ≤ S64x16x8x64.size a} {iV : ∀ a, oV a + S64x16x1x64.size a ≤ S64x16x8x64.size a}
    {iQ : ∀ a, oQ a + S1x8x64.size a ≤ S8x8x64.size a} {iW : ∀ a, oW a + S1024x8.size a ≤ S1024x64.size a}
    {i1 : ∀ a, o1 a + S1x8x64.size a ≤ S4x66x64.size a} {i2 : ∀ a, o2 a + S1x1x8.size a ≤ S4x66x64.size a}
    {i3 : ∀ a, o3 a + S1x1x8.size a ≤ S4x66x64.size a}
    {w1 : Vec F S64x16x1x64 .bf16 → Vec F S1x8x64 .bf16 → Vec F S1024x8 .f32 → Vec F S64x16x1x64 .bf16 → FVec F S1x8x64 .f32}
    {w2 w3 : Vec F S64x16x1x64 .bf16 → Vec F S1x8x64 .bf16 → Vec F S1024x8 .f32 → FVec F S1x1x8 .f32}
    (h1 : w1 (ldK kb h) (ldQ qb h) (ldW wb h) (ldV vb h) = payO kb vb qb wb h)
    (h2 : w2 (ldK kb h) (ldQ qb h) (ldW wb h) = payM kb qb wb h) (h3 : w3 (ldK kb h) (ldQ qb h) (ldW wb h) = payL kb qb wb h)
    {lK : kM.view.LoadsAt (Rect.unit (s := S64x16x8x64) oK S64x16x1x64.size iK).toLoadRect}
    {lV : vM.view.LoadsAt (Rect.unit (s := S64x16x8x64) oV S64x16x1x64.size iV).toLoadRect}
    {lQ : qM.view.LoadsAt (Rect.unit (s := S8x8x64) oQ S1x8x64.size iQ).toLoadRect}
    {lW : wM.view.LoadsAt (Rect.unit (s := S1024x64) oW S1024x8.size iW).toLoadRect}
    {l1 : comm.view.LoadsAt (Rect.unit (s := S4x66x64) o1 S1x8x64.size i1).toLoadRect}
    {l2 : comm.view.LoadsAt (Rect.unit (s := S4x66x64) o2 S1x1x8.size i2).toLoadRect}
    {l3 : comm.view.LoadsAt (Rect.unit (s := S4x66x64) o3 S1x1x8.size i3).toLoadRect}
    {s1 : (comm.access (Rect.unit (s := S4x66x64) o1 S1x8x64.size i1)).Stores Finset.univ}
    {s2 : (comm.access (Rect.unit (s := S4x66x64) o2 S1x1x8.size i2)).Stores Finset.univ}
    {s3 : (comm.access (Rect.unit (s := S4x66x64) o3 S1x1x8.size i3)).Stores Finset.univ}
    {m1 m2 m3} :
    iprop(operands c kb vb qb wb ∗ own c (slotVal kb vb qb wb) h.val)
      ⊢ iprop((operands c kb vb qb wb ∗ own c (slotVal kb vb qb wb) (h.val + 1)
            -∗ wp frame (wpE (defs₀ (F := F)) 𝒱₀ (c : Thread nD τ) none) Set.univ (K ⟨⟩) Kt)
          -∗ wp frame (wpE (defs₀ (F := F)) 𝒱₀ (c : Thread nD τ) none) Set.univ
            (.op (.load kM (Rect.unit (s := S64x16x8x64) oK S64x16x1x64.size iK).toLoadRect lK) fun x =>
             .op (.load qM (Rect.unit (s := S8x8x64) oQ S1x8x64.size iQ).toLoadRect lQ) fun y =>
             .op (.load wM (Rect.unit (s := S1024x64) oW S1024x8.size iW).toLoadRect lW) fun u =>
             .op (.load vM (Rect.unit (s := S64x16x8x64) oV S64x16x1x64.size iV).toLoadRect lV) fun v =>
             .op (.load comm (Rect.unit (s := S4x66x64) o1 S1x8x64.size i1).toLoadRect l1) fun _ =>
             .op (.store comm (Rect.unit (s := S4x66x64) o1 S1x8x64.size i1) (w1 x y u v) Finset.univ s1 m1) fun _ =>
             .op (.load comm (Rect.unit (s := S4x66x64) o2 S1x1x8.size i2).toLoadRect l2) fun _ =>
             .op (.store comm (Rect.unit (s := S4x66x64) o2 S1x1x8.size i2) (w2 x y u) Finset.univ s2 m2) fun _ =>
             .op (.load comm (Rect.unit (s := S4x66x64) o3 S1x1x8.size i3).toLoadRect l3) fun _ =>
             .op (.store comm (Rect.unit (s := S4x66x64) o3 S1x1x8.size i3) (w3 x y u) Finset.univ s3 m3) K) Kt) := by
  subst eK; subst eV; subst eQ; subst eW
  have z1 : o1 0 = (place c).val := by rw [e1]; rfl
  have z2 : o2 0 = (place c).val := by rw [e2]; rfl
  have z3 : o3 0 = (place c).val := by rw [e3]; rfl
  unfold operands own
  iintro ⟨⟨Hx, Hv, Hy, Hu⟩, ⟨%f, %hf, Hs⟩⟩ Hk
  iapply (wp_load 𝒱₀ (c : Thread nD τ) none Set.univ (m := kM) (Finset.subset_univ _)) $$ Hx; iintro Hx
  iapply (wp_load 𝒱₀ (c : Thread nD τ) none Set.univ (m := qM) (Finset.subset_univ _)) $$ Hy; iintro Hy
  iapply (wp_load 𝒱₀ (c : Thread nD τ) none Set.univ (m := wM) (Finset.subset_univ _)) $$ Hu; iintro Hu
  iapply (wp_load 𝒱₀ (c : Thread nD τ) none Set.univ (m := vM) (Finset.subset_univ _)) $$ Hv; iintro Hv
  iapply (wp_load 𝒱₀ (c : Thread nD τ) none Set.univ (m := comm) (Memref.setOn_subset_of_access_subset (c : Thread nD τ) (access_sub (place c) o1 _ i1 z1 rfl))) $$ Hs; iintro Hs
  iapply (wp_store 𝒱₀ (c : Thread nD τ) none Set.univ (m := comm) (r := Rect.unit (s := S4x66x64) o1 S1x8x64.size i1) (access_sub (place c) o1 _ i1 z1 rfl)) $$ Hs; iintro Hs
  iapply (wp_load 𝒱₀ (c : Thread nD τ) none Set.univ (m := comm) (Memref.setOn_subset_of_access_subset (c : Thread nD τ) (access_sub (place c) o2 _ i2 z2 rfl))) $$ Hs; iintro Hs
  iapply (wp_store 𝒱₀ (c : Thread nD τ) none Set.univ (m := comm) (r := Rect.unit (s := S4x66x64) o2 S1x1x8.size i2) (access_sub (place c) o2 _ i2 z2 rfl)) $$ Hs; iintro Hs
  iapply (wp_load 𝒱₀ (c : Thread nD τ) none Set.univ (m := comm) (Memref.setOn_subset_of_access_subset (c : Thread nD τ) (access_sub (place c) o3 _ i3 z3 rfl))) $$ Hs; iintro Hs
  iapply (wp_store 𝒱₀ (c : Thread nD τ) none Set.univ (m := comm) (r := Rect.unit (s := S4x66x64) o3 S1x1x8.size i3) (access_sub (place c) o3 _ i3 z3 rfl)) $$ Hs; iintro Hs
  iapply Hk
  isplitl [Hx Hv Hy Hu]
  · isplitl [Hx]; · iexact Hx
    isplitl [Hv]; · iexact Hv
    isplitl [Hy]; · iexact Hy
    iexact Hu
  · iexists _
    isplitr
    rotate_left
    · iexact Hs
    · ipureintro
      exact done_step kb vb qb wb (place c) h f hf o1 o2 o3 e1 e2 e3 i1 i2 i3 _ _ _ h1 h2 h3

/-- The result's staging buffer with the heads before `h` stored. -/
def result (g : S4x66x64.Idx → Elt F .f32) (h : ℕ) : sProp 𝕄 :=
  iprop(∃ f : S8x1x8x64.Idx → Elt F .f32, ⌜DoneO g h f⌝ ∗ (oM.view.loc (c : Thread nD τ) ↦{fullShare} f))

/-- One head of the result: a store, after a load nothing uses. -/
theorem wp_out {α : Type} {Kt : α → sProp 𝕄} {K : PUnit → Prog (TpuEff nD τ sig (Elt F) Λ₀ .tc) α} (h : Fin 8)
    (g : S4x66x64.Idx → Elt F .f32) {o : Fin 4 → ℕ} (e : o = ![0, 0, h.val, 0]) {inb : ∀ a, o a + S8x1x1x64.size a ≤ S8x1x8x64.size a}
    {w : S8x1x1x64.Idx → Elt F .f32} (hs : Shape.Slices S64x64 ![8 * h.val, 0] S8x64)
    (hw : w = shapeCast S8x1x1x64 (extractStridedSlice S8x64 ![8 * h.val, 0] (combine g) hs) shapeCasts_S8x64_S8x1x1x64)
    {l : oM.view.LoadsAt (Rect.unit (s := S8x1x8x64) o S8x1x1x64.size inb).toLoadRect}
    {s : (oM.access (Rect.unit (s := S8x1x8x64) o S8x1x1x64.size inb)).Stores Finset.univ} {m} :
    (result c g h.val : sProp 𝕄)
      ⊢ iprop((result c g (h.val + 1) -∗ wp frame (wpE (defs₀ (F := F)) 𝒱₀ (c : Thread nD τ) none) Set.univ (K ⟨⟩) Kt)
          -∗ wp frame (wpE (defs₀ (F := F)) 𝒱₀ (c : Thread nD τ) none) Set.univ
            (.op (.load oM (Rect.unit (s := S8x1x8x64) o S8x1x1x64.size inb).toLoadRect l) fun _ =>
             .op (.store oM (Rect.unit (s := S8x1x8x64) o S8x1x1x64.size inb) w Finset.univ s m) K) Kt) := by
  subst e
  unfold result
  iintro ⟨%f, %hf, Hs⟩ Hk
  iapply (wp_load 𝒱₀ (c : Thread nD τ) none Set.univ (m := oM) (Finset.subset_univ _)) $$ Hs; iintro Hs
  iapply (wp_store 𝒱₀ (c : Thread nD τ) none Set.univ (m := oM) (r := Rect.unit (s := S8x1x8x64) ![0, 0, h.val, 0] S8x1x1x64.size inb) (Finset.subset_univ _)) $$ Hs; iintro Hs
  iapply Hk
  iexists _
  isplitr
  rotate_left
  · iexact Hs
  · ipureintro
    exact doneO_step g h f hf w hs hw

end Cert.KernelIdeal.Paged

end
-- ==== Proof.Run.lean ====
/-
  The whole body of the kernel at a device, from its staged operands to its result.
-/
module

public import proofs.«01_k».proof.Proof.Body

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Fin 66 → Fin 64 → Elt F .f32) (κ : GSem nD τ sig → ℕ) (c : Dev nD)

/-! ## The scratch buffer as its four slots -/

theorem whole_slots (f : S4x66x64.Idx → Elt F .f32) :
    ((comm.view.loc (c : Thread nD τ) ↦{fullShare} f) : sProp 𝕄) = bigSep Finset.univ fun z : Fin 4 => slotPts c z fullShare f := by
  have hu : (Finset.univ : Finset S4x66x64.Idx) = Finset.univ.biUnion slotSet := by
    ext i
    simp only [Finset.mem_univ, Finset.mem_biUnion, true_and, true_iff]
    exact ⟨i 0, (mem_slotSet _ i).mpr rfl⟩
  have hd : ∀ t ∈ (Finset.univ : Finset (Fin 4)), ∀ t' ∈ (Finset.univ : Finset (Fin 4)), t ≠ t' → Disjoint (slotSet t) (slotSet t') := by
    intro t _ t' _ hne
    rw [Finset.disjoint_left]
    intro i h1 h2
    exact hne (Fin.ext (((mem_slotSet t i).mp h1).symm.trans ((mem_slotSet t' i).mp h2)))
  refine Eq.trans ?_ (pointsTo_biUnion (ℓ := comm.view.loc (c : Thread nD τ)) (q := fullShare) (f := f) Finset.univ slotSet hd)
  exact congrArg (fun S => ((comm.view.loc (c : Thread nD τ) ↦[S]{fullShare} f) : sProp 𝕄)) hu

theorem slots_fwd (f : S4x66x64.Idx → Elt F .f32) :
    ((comm.view.loc (c : Thread nD τ) ↦{fullShare} f) : sProp 𝕄)
      = iprop(slotPts c (place c) fullShare f ∗ slotPts c (place (fwd 0 c)) fullShare f ∗ slotPts c (place (fwd 1 c)) fullShare f
          ∗ slotPts c (place (fwd 2 c)) fullShare f) := by
  rw [whole_slots, bigSep_univ_eq_bigSepL [place c, place (fwd 0 c), place (fwd 1 c), place (fwd 2 c)] (by revert c; decide) (by revert c; decide)]
  rfl

theorem slots_bwd (f : S4x66x64.Idx → Elt F .f32) :
    ((comm.view.loc (c : Thread nD τ) ↦{fullShare} f) : sProp 𝕄)
      = iprop(slotPts c (place c) fullShare f ∗ slotPts c (place (bwd 0 c)) fullShare f ∗ slotPts c (place (bwd 1 c)) fullShare f
          ∗ slotPts c (place (bwd 2 c)) fullShare f) := by
  rw [whole_slots, bigSep_univ_eq_bigSepL [place c, place (bwd 0 c), place (bwd 1 c), place (bwd 2 c)] (by revert c; decide) (by revert c; decide)]
  rfl

theorem own_done (val : Fin 66 → Fin 64 → Elt F .f32) (hX : X c = val) :
    (own c val ((7 : Fin 8).val + 1) : sProp 𝕄) ⊢ iprop(slotPts c (place c) (piece 0) (commBuf X c) ∗ slotPts c (place c) (piece 1) (commBuf X c)
      ∗ slotPts c (place c) (piece 2) (commBuf X c)) := by
  subst hX
  rw [← slotPts_pieces]
  unfold own
  iintro ⟨%f, %hf, Hs⟩
  iapply (Entails.of_eq (pointsTo_congr (done_all X c f hf)))
  iexact Hs

/-! ## The program's own spelling of the semaphores and the slot -/

theorem sem_bar : (SemArray.scalar (sig.barrier 0 rfl) : Sems sig S_).sem = barS := rfl
theorem sem_send0 : ((cc0_scratch1.slice (Rect.unit (s := S3) ![0] S1.size inb_S3_S1_0)).squeeze S_ squeezes_S1_S_).sem = sendS 0 := by decide
theorem sem_send1 : ((cc0_scratch1.slice (Rect.unit (s := S3) ![1] S1.size inb_S3_S1_1)).squeeze S_ squeezes_S1_S_).sem = sendS 1 := by decide
theorem sem_send2 : ((cc0_scratch1.slice (Rect.unit (s := S3) ![2] S1.size inb_S3_S1_2)).squeeze S_ squeezes_S1_S_).sem = sendS 2 := by decide
theorem sem_recv0 : ((cc0_scratch2.slice (Rect.unit (s := S3) ![0] S1.size inb_S3_S1_0)).squeeze S_ squeezes_S1_S_).sem = recvS 0 := by decide
theorem sem_recv1 : ((cc0_scratch2.slice (Rect.unit (s := S3) ![1] S1.size inb_S3_S1_1)).squeeze S_ squeezes_S1_S_).sem = recvS 1 := by decide
theorem sem_recv2 : ((cc0_scratch2.slice (Rect.unit (s := S3) ![2] S1.size inb_S3_S1_2)).squeeze S_ squeezes_S1_S_).sem = recvS 2 := by decide

/-! ## What the body is run from and to -/

abbrev per (Φ : Fin 3 → sProp 𝕄) : sProp 𝕄 := iprop(Φ 0 ∗ Φ 1 ∗ Φ 2)

/-- The device's part of the exchange once its own cells are open. -/
def opened : sProp 𝕄 :=
  iprop(records X κ ∗ atPos ER (barCell c) 0 ∅ 0 ∗ per (fun j => atPos ER (sendCell c j) 0 ∅ 0) ∗ per (fun j => atPos ER (recvCell c j) 0 ∅ 0)
    ∗ per (fun j => reached ER (sendCell c j) 0) ∗ per (fun j => reached ER (recvCell c j) 0)
    ∗ per (fun k => dutyTok ER (barCell (fwd k c)) 0 k) ∗ per (fun j => dutyTok ER (sendCell c j) 0 0)
    ∗ per (fun j => dutyTok ER (recvCell (fwd j c) j) 0 0))

variable (kb vb : S64x16x8x64.Idx → Elt F .bf16) (qb : S8x8x64.Idx → Elt F .bf16) (wb : S1024x64.Idx → Elt F .f32)

def talkPre (W : Waits sig Unit) : sProp 𝕄 :=
  iprop(opened X κ c ∗ cred (tallyAt (barCell c) () 3) ∗ per (fun j => cred (tallyAt (recvCell c j) () N)) ∗ levAts L lv
    ∗ (∃ f : S4x66x64.Idx → Elt F .f32, comm.view.loc (c : Thread nD τ) ↦{fullShare} f) ∗ operands c kb vb qb wb
    ∗ (∃ f : S8x1x8x64.Idx → Elt F .f32, oM.view.loc (c : Thread nD τ) ↦{fullShare} f) ∗ owes (c : Thread nD τ) (O₀ c) W)

def talkPost : sProp 𝕄 :=
  iprop(semVal (barCell c) 0 ∗ per (fun j => semVal (sendCell c j) 0) ∗ per (fun j => semVal (recvCell c j) 0)
    ∗ (∃ f : S4x66x64.Idx → Elt F .f32, comm.view.loc (c : Thread nD τ) ↦{fullShare} f) ∗ operands c kb vb qb wb
    ∗ (oM.view.loc (c : Thread nD τ) ↦{fullShare} outBuf (commBuf X c)) ∗ ∃ W, owes (c : Thread nD τ) (0 : CellTallies nD τ sig Unit) W)

set_option maxRecDepth 65536 in
set_option maxHeartbeats 4000000 in
theorem talkRun (hX : X c = slotVal kb vb qb wb) (W : Waits sig Unit) (Kt : PUnit → sProp 𝕄) {hK hV hQ hW hO hC} :
    iprop(talkPre X κ c kb vb qb wb W ∗ (talkPost X c kb vb qb wb -∗ Kt ⟨⟩))
      ⊢ wp frame (wpE (defs₀ (F := F)) 𝒱₀ c none) Set.univ
          (cc0__body (F := F) kM hK vM hV qM hQ wM hW oM hO comm hC cc0_scratch1 cc0_scratch2) Kt := by
  simp only [cc0__body_eq_skeleton, cc0__body_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton,
    k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel,
    semSignalWord, semWaitWord, Prog.lift, Prog.bind_op, Prog.bind_ret, Prog.pure_eq_ret, wp_deviceId,
    sem_bar, sem_send0, sem_send1, sem_send2, sem_recv0, sem_recv1, sem_recv2]
  unfold talkPre opened O₀
  iintro ⟨⟨⟨#HI, HaB, ⟨HaS0, HaS1, HaS2⟩, ⟨HaV0, HaV1, HaV2⟩, ⟨#HrS0, #HrS1, #HrS2⟩, ⟨#HrV0, #HrV1, #HrV2⟩, ⟨HtB0, HtB1, HtB2⟩, ⟨HtS0, HtS1, HtS2⟩, ⟨HtV0, HtV1, HtV2⟩⟩, HcB, ⟨HcV0, HcV1, HcV2⟩, #Hlev, ⟨%f0, Hs⟩, Hop, ⟨%g0, Ho⟩, HO⟩, Hk⟩
  ihave Hs4 := (Entails.of_eq (slots_fwd c f0)) $$ Hs
  icases Hs4 with ⟨Hme, Hs0, Hs1, Hs2⟩
  -- the three signals give the three foreign slots away
  iapply (wp_sig X κ c _ W 0 (Fin.ext (dev1_eq c)) _) $$ [HO HtB0 Hs0]
  · isplitr; · iexact HI
    isplitl [HO]; · iexact HO
    isplitl [HtB0]; · iexact HtB0
    isplitl [Hs0]; · iexists _; iexact Hs0
    iexact HrV2
  iintro HO
  iapply (wp_sig X κ c _ W 1 (Fin.ext (dev2_eq c)) _) $$ [HO HtB1 Hs1]
  · isplitr; · iexact HI
    isplitl [HO]; · iexact HO
    isplitl [HtB1]; · iexact HtB1
    isplitl [Hs1]; · iexists _; iexact Hs1
    iexact HrV1
  iintro HO
  iapply (wp_sig X κ c _ W 2 (Fin.ext (dev3_eq c)) _) $$ [HO HtB2 Hs2]
  · isplitr; · iexact HI
    isplitl [HO]; · iexact HO
    isplitl [HtB2]; · iexact HtB2
    isplitl [Hs2]; · iexists _; iexact Hs2
    iexact HrV0
  iintro HO
  -- the barrier brings the slot of this device on the three others
  iapply (wp_barrier X κ c W) $$ [HcB HO HaB]
  · isplitr; · iexact HI
    isplitr; · iexact Hlev
    isplitl [HcB]; · iexact HcB
    isplitl [HO]; · iexact HO
    iexact HaB
  unfold barPay
  rw [show bwd 0 c = fwd 2 c from bwd_rev 2 c, show bwd 1 c = fwd 1 c from bwd_rev 1 c, show bwd 2 c = fwd 0 c from bwd_rev 0 c]
  iintro ⟨⟨%W1, HO⟩, HaB, ⟨Hd2, #HrW2⟩, ⟨Hd1, #HrW1⟩, ⟨Hd0, #HrW0⟩⟩
  -- the eight heads
  ihave Hown := (show (slotPts c (place c) fullShare f0 : sProp 𝕄) ⊢ own c (slotVal kb vb qb wb) (0 : Fin 8).val from by
    unfold own; iintro H; iexists f0; isplitr; · ipureintro; exact done_zero _ _ _
    iexact H) $$ Hme
  iapply (wp_head c 0 kb vb qb wb rfl rfl rfl rfl (k0_off1_eq c) (k0_off2_eq c) (k0_off3_eq c) (by rfl) (by rfl) (by rfl)) $$ [Hop Hown]
  · isplitl [Hop]; · iexact Hop
    iexact Hown
  iintro ⟨Hop, Hown⟩
  iapply (wp_head c 1 kb vb qb wb rfl rfl rfl rfl (k0_off4_eq c) (k0_off5_eq c) (k0_off6_eq c) (by rfl) (by rfl) (by rfl)) $$ [Hop Hown]
  · isplitl [Hop]; · iexact Hop
    iexact Hown
  iintro ⟨Hop, Hown⟩
  iapply (wp_head c 2 kb vb qb wb rfl rfl rfl rfl (k0_off7_eq c) (k0_off8_eq c) (k0_off9_eq c) (by rfl) (by rfl) (by rfl)) $$ [Hop Hown]
  · isplitl [Hop]; · iexact Hop
    iexact Hown
  iintro ⟨Hop, Hown⟩
  iapply (wp_head c 3 kb vb qb wb rfl rfl rfl rfl (k0_off10_eq c) (k0_off11_eq c) (k0_off12_eq c) (by rfl) (by rfl) (by rfl)) $$ [Hop Hown]
  · isplitl [Hop]; · iexact Hop
    iexact Hown
  iintro ⟨Hop, Hown⟩
  iapply (wp_head c 4 kb vb qb wb rfl rfl rfl rfl (k0_off13_eq c) (k0_off14_eq c) (k0_off15_eq c) (by rfl) (by rfl) (by rfl)) $$ [Hop Hown]
  · isplitl [Hop]; · iexact Hop
    iexact Hown
  iintro ⟨Hop, Hown⟩
  iapply (wp_head c 5 kb vb qb wb rfl rfl rfl rfl (k0_off16_eq c) (k0_off17_eq c) (k0_off18_eq c) (by rfl) (by rfl) (by rfl)) $$ [Hop Hown]
  · isplitl [Hop]; · iexact Hop
    iexact Hown
  iintro ⟨Hop, Hown⟩
  iapply (wp_head c 6 kb vb qb wb rfl rfl rfl rfl (k0_off19_eq c) (k0_off20_eq c) (k0_off21_eq c) (by rfl) (by rfl) (by rfl)) $$ [Hop Hown]
  · isplitl [Hop]; · iexact Hop
    iexact Hown
  iintro ⟨Hop, Hown⟩
  iapply (wp_head c 7 kb vb qb wb rfl rfl rfl rfl (k0_off22_eq c) (k0_off23_eq c) (k0_off24_eq c) (by rfl) (by rfl) (by rfl)) $$ [Hop Hown]
  · isplitl [Hop]; · iexact Hop
    iexact Hown
  iintro ⟨Hop, Hown⟩
  ihave Hp := (own_done X c _ hX) $$ Hown
  icases Hp with ⟨Hp0, Hp1, Hp2⟩
  -- the three copies
  ihave HO := (show (owes (c : Thread nD τ) (Orecv c) W1 : sProp 𝕄) ⊢ owes (c : Thread nD τ) (0 + tallyAt (recvCell (fwd 2 c) 2) () N
      + tallyAt (recvCell (fwd 1 c) 1) () N + tallyAt (recvCell (fwd 0 c) 0) () N) W1 from Entails.of_eq (by rw [zero_add]; rfl)) $$ HO
  iapply (wp_copy X κ c _ W1 _ (k0_off25_eq c) (k0_off25_inb c) 0 (Fin.ext (dev4_eq c)) _) $$ [Hp0 Hd0 HO HtS0 HtV0]
  · isplitr; · iexact HI
    isplitl [Hp0]; · iexact Hp0
    isplitl [Hd0]; · iexact Hd0
    isplitl [HO]; · iexact HO
    isplitl [HtS0]; · iexact HtS0
    isplitr; · iexact HrS0
    isplitl [HtV0]; · iexact HtV0
    iexact HrW0
  iintro ⟨HcS0, HO⟩
  iapply (wp_copy X κ c _ W1 _ (k0_off25_eq c) (k0_off25_inb c) 1 (Fin.ext (dev5_eq c)) _) $$ [Hp1 Hd1 HO HtS1 HtV1]
  · isplitr; · iexact HI
    isplitl [Hp1]; · iexact Hp1
    isplitl [Hd1]; · iexact Hd1
    isplitl [HO]; · iexact HO
    isplitl [HtS1]; · iexact HtS1
    isplitr; · iexact HrS1
    isplitl [HtV1]; · iexact HtV1
    iexact HrW1
  iintro ⟨HcS1, HO⟩
  iapply (wp_copy X κ c _ W1 _ (k0_off25_eq c) (k0_off25_inb c) 2 (Fin.ext (dev6_eq c)) _) $$ [Hp2 Hd2 HO HtS2 HtV2]
  · isplitr; · iexact HI
    isplitl [Hp2]; · iexact Hp2
    isplitl [Hd2]; · iexact Hd2
    isplitl [HO]; · iexact HO
    isplitl [HtS2]; · iexact HtS2
    isplitr; · iexact HrS2
    isplitl [HtV2]; · iexact HtV2
    iexact HrW2
  iintro ⟨HcS2, HO⟩
  -- the six waits
  ihave HO := (show (owes (c : Thread nD τ) (0 : CellTallies nD τ sig Unit) W1 : sProp 𝕄) ⊢ iprop(∃ W, owes (c : Thread nD τ) (0 : CellTallies nD τ sig Unit) W) from by
    iintro H; iexists _; iexact H) $$ HO
  iapply (wp_sent X κ c _ (k0_off25_inb c) 0) $$ [HcS0 HO HaS0]
  · isplitr; · iexact HI
    isplitl [HcS0]; · iexact HcS0
    isplitl [HO]; · iexact HO
    iexact HaS0
  iintro ⟨HO, HaS0, HpS0⟩
  iapply (wp_received X κ c _ (k0_off25_inb c) 0) $$ [HcV0 HO HaV0]
  · isplitr; · iexact HI
    isplitl [HcV0]; · iexact HcV0
    isplitl [HO]; · iexact HO
    iexact HaV0
  iintro ⟨HO, HaV0, HpV0⟩
  iapply (wp_sent X κ c _ (k0_off25_inb c) 1) $$ [HcS1 HO HaS1]
  · isplitr; · iexact HI
    isplitl [HcS1]; · iexact HcS1
    isplitl [HO]; · iexact HO
    iexact HaS1
  iintro ⟨HO, HaS1, HpS1⟩
  iapply (wp_received X κ c _ (k0_off25_inb c) 1) $$ [HcV1 HO HaV1]
  · isplitr; · iexact HI
    isplitl [HcV1]; · iexact HcV1
    isplitl [HO]; · iexact HO
    iexact HaV1
  iintro ⟨HO, HaV1, HpV1⟩
  iapply (wp_sent X κ c _ (k0_off25_inb c) 2) $$ [HcS2 HO HaS2]
  · isplitr; · iexact HI
    isplitl [HcS2]; · iexact HcS2
    isplitl [HO]; · iexact HO
    iexact HaS2
  iintro ⟨HO, HaS2, HpS2⟩
  iapply (wp_received X κ c _ (k0_off25_inb c) 2) $$ [HcV2 HO HaV2]
  · isplitr; · iexact HI
    isplitl [HcV2]; · iexact HcV2
    isplitl [HO]; · iexact HO
    iexact HaV2
  iintro ⟨HO, HaV2, HpV2⟩
  unfold sendPay recvPay
  ihave Hme := (Entails.of_eq (slotPts_pieces c (place c) (commBuf X c)).symm) $$ [HpS0 HpS1 HpS2]
  · isplitl [HpS0]; · iexact HpS0
    isplitl [HpS1]; · iexact HpS1
    iexact HpS2
  ihave Hs := (Entails.of_eq (slots_bwd c (commBuf X c)).symm) $$ [Hme HpV0 HpV1 HpV2]
  · isplitl [Hme]; · iexact Hme
    isplitl [HpV0]; · iexact HpV0
    isplitl [HpV1]; · iexact HpV1
    iexact HpV2
  -- the combination of the four slots
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  iapply (wp_load 𝒱₀ (c : Thread nD τ) none Set.univ (m := comm) (Finset.subset_univ _)) $$ Hs; iintro Hs
  ihave Ho := (show (oM.view.loc (c : Thread nD τ) ↦{fullShare} g0 : sProp 𝕄) ⊢ result c (commBuf X c) (0 : Fin 8).val from by
    unfold result; iintro H; iexists g0; isplitr; · ipureintro; exact fun i h => absurd h (Nat.not_lt_zero _)
    iexact H) $$ Ho
  iapply (wp_out c 0 (commBuf X c) rfl slices_S64x64_o0_0_S8x64 (by rfl)) $$ [Ho]
  · iexact Ho
  iintro Ho
  iapply (wp_out c 1 (commBuf X c) rfl slices_S64x64_o8_0_S8x64 (by rfl)) $$ [Ho]
  · iexact Ho
  iintro Ho
  iapply (wp_out c 2 (commBuf X c) rfl slices_S64x64_o16_0_S8x64 (by rfl)) $$ [Ho]
  · iexact Ho
  iintro Ho
  iapply (wp_out c 3 (commBuf X c) rfl slices_S64x64_o24_0_S8x64 (by rfl)) $$ [Ho]
  · iexact Ho
  iintro Ho
  iapply (wp_out c 4 (commBuf X c) rfl slices_S64x64_o32_0_S8x64 (by rfl)) $$ [Ho]
  · iexact Ho
  iintro Ho
  iapply (wp_out c 5 (commBuf X c) rfl slices_S64x64_o40_0_S8x64 (by rfl)) $$ [Ho]
  · iexact Ho
  iintro Ho
  iapply (wp_out c 6 (commBuf X c) rfl slices_S64x64_o48_0_S8x64 (by rfl)) $$ [Ho]
  · iexact Ho
  iintro Ho
  iapply (wp_out c 7 (commBuf X c) rfl slices_S64x64_o56_0_S8x64 (by rfl)) $$ [Ho]
  · iexact Ho
  iintro Ho
  -- the cells of the exchange are closed
  rw [wp_ret]
  imod (close X (κ (barCell c)) (barCell c)) $$ [HaB] with Hb
  · isplitr; · iapply (inv_bar X κ c); iexact HI
    iexact HaB
  imod (close X (κ (sendCell c 0)) (sendCell c 0)) $$ [HaS0] with HzS0
  · isplitr; · iapply (inv_send X κ c 0); iexact HI
    iexact HaS0
  imod (close X (κ (recvCell c 0)) (recvCell c 0)) $$ [HaV0] with HzV0
  · isplitr; · iapply (inv_recv X κ c 0); iexact HI
    iexact HaV0
  imod (close X (κ (sendCell c 1)) (sendCell c 1)) $$ [HaS1] with HzS1
  · isplitr; · iapply (inv_send X κ c 1); iexact HI
    iexact HaS1
  imod (close X (κ (recvCell c 1)) (recvCell c 1)) $$ [HaV1] with HzV1
  · isplitr; · iapply (inv_recv X κ c 1); iexact HI
    iexact HaV1
  imod (close X (κ (sendCell c 2)) (sendCell c 2)) $$ [HaS2] with HzS2
  · isplitr; · iapply (inv_send X κ c 2); iexact HI
    iexact HaS2
  imod (close X (κ (recvCell c 2)) (recvCell c 2)) $$ [HaV2] with HzV2
  · isplitr; · iapply (inv_recv X κ c 2); iexact HI
    iexact HaV2
  imodintro
  iapply Hk
  unfold talkPost
  isplitl [Hb]; · iexact Hb
  isplitl [HzS0 HzS1 HzS2]
  · isplitl [HzS0]; · iexact HzS0
    isplitl [HzS1]; · iexact HzS1
    iexact HzS2
  isplitl [HzV0 HzV1 HzV2]
  · isplitl [HzV0]; · iexact HzV0
    isplitl [HzV1]; · iexact HzV1
    iexact HzV2
  isplitl [Hs]; · iexists _; iexact Hs
  isplitl [Hop]; · iexact Hop
  isplitl [Ho]
  · iapply (show (result c (commBuf X c) ((7 : Fin 8).val + 1) : sProp 𝕄) ⊢ (oM.view.loc (c : Thread nD τ) ↦{fullShare} outBuf (commBuf X c)) from by
      unfold result
      iintro ⟨%f, %hf, H⟩
      rw [← doneO_all _ _ hf]
      iexact H)
    iexact Ho
  iexact HO

end Cert.KernelIdeal.Paged

end
-- ==== Proof.Region.lean ====
/-
  The one region of the program: its proof data, the kernel's body under them, and the record the launch enters it by.
-/
module

public import proofs.«01_k».proof.Proof.Run

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the kernel reads and leaves -/

/-- The unscoped buffers of device `d` as its host operations leave them. -/
@[irreducible] def mid (d : Dev nD) : Valuation τ sig (Elt F) := V1 m d
theorem mid_eq (d : Dev nD) : mid m d = V1 m d := by unfold mid; rfl

/-- The operands of device `d`, as its host operations leave them. -/
abbrev kIn (d : Dev nD) : S64x16x8x64.Idx → Elt F .bf16 := mid m d main_arg1
abbrev vIn (d : Dev nD) : S64x16x8x64.Idx → Elt F .bf16 := mid m d main_arg2
abbrev qIn (d : Dev nD) : S8x8x64.Idx → Elt F .bf16 := mid m d main_v33
abbrev wIn (d : Dev nD) : S1024x64.Idx → Elt F .f32 := mid m d main_v31

/-- The slot device `d` fills and sends. -/
def X (d : Dev nD) : Fin 66 → Fin 64 → Elt F .f32 := slotVal (kIn m d) (vIn m d) (qIn m d) (wIn m d)

/-- The result of device `c`. -/
def out (c : Dev nD) : S8x1x8x64.Idx → Elt F .f32 := outBuf (commBuf (X m) c)

/-- What the region leaves in the buffers it may change. -/
def outs : Outs (F := F) := fun _ r c => if h : r = main_v34 then h ▸ (out m c) else mid m c r
theorem outs_v34 (c : Dev nD) : outs m 2 main_v34 c = out m c := dif_pos rfl

/-! ## The proof data -/

/-- The semaphores the kernel keeps to itself: three to send on, three to receive on. -/
def osem : Fin 2 × Fin 3 → SemLoc sig := fun p => if p.1 = 0 then .dma (sendS p.2) else .dma (recvS p.2)

theorem ownSems_eq (c : Dev nD) : (Pipeline.ownSems0 osem c : sProp 𝕄)
    = iprop(per (fun j => semVal (sendCell c j) 0) ∗ per (fun j => semVal (recvCell c j) 0)) := by
  unfold Pipeline.ownSems0
  rw [bigSep_univ_prod, BI.bigSep_fin_two, three, three]
  rfl

abbrev regPts (c : Dev nD) : sProp 𝕄 := iprop(∃ r, prngReg c r)
abbrev commAny (c : Dev nD) : sProp 𝕄 := iprop(∃ f : Buf (Elt F) ((c : Thread nD τ).loc cc0_scratch0), ((c : Thread nD τ).loc cc0_scratch0) ↦{fullShare} f)

/-- What the exchange brings into the body, besides the buffers. -/
def entry (c : Dev nD) : sProp 𝕄 :=
  iprop((∃ κ, opened (X m) κ c) ∗ cred (tallyAt (barCell c) () 3) ∗ per (fun j => cred (tallyAt (recvCell c j) () N)) ∗ levAts L lv)

/-- One point: the exchange before it, the counters at zero after it. -/
def dat (c : Dev nD) : Dat τ (Elt F) Unit ℕ UU ℕ cfg0 c where
  A w := mid m c (Proc.devRef .tc (Pipeline.arrRef spec0 w))
  after w _ := match w with
    | ⟨0, _⟩ => kIn m c
    | ⟨1, _⟩ => vIn m c
    | ⟨2, _⟩ => qIn m c
    | ⟨3, _⟩ => wIn m c
    | ⟨4, _⟩ => out m c
  Φ t := if t.val = 0 then iprop(entry m c ∗ commAny c ∗ regPts c)
    else iprop((semVal (barCell c) 0 ∗ Pipeline.ownSems0 osem c) ∗ commAny c ∗ regPts c)
  q _ := fullShare
  owed t := if t.val = 0 then O₀ c else 0

def pdats : (p : Fin 1) → (c : Dev nD) → Dat τ (Elt F) Unit ℕ UU ℕ (Pipeline.pin (pcfgs (F := F)) adm p) c
  | 0 => dat m

theorem blk0 (f : (main_arg1 : Ref sig .tc).ty.Contents (Elt F)) : (win0_0.blk t0_0).view.read (Elt F) f = f :=
  Memref.read_access_unit_zero (Elt F) main_arg1 (off := fun a => 0 * S64x16x8x64.size a) (funext fun _ => Nat.zero_mul _) _ f
theorem blk1 (f : (main_arg2 : Ref sig .tc).ty.Contents (Elt F)) : (win0_1.blk t0_0).view.read (Elt F) f = f :=
  Memref.read_access_unit_zero (Elt F) main_arg2 (off := fun a => 0 * S64x16x8x64.size a) (funext fun _ => Nat.zero_mul _) _ f
theorem blk2 (f : (main_v33 : Ref sig .tc).ty.Contents (Elt F)) : (win0_2.blk t0_0).view.read (Elt F) f = f :=
  Memref.read_access_unit_zero (Elt F) main_v33 (off := fun a => 0 * S8x8x64.size a) (funext fun _ => Nat.zero_mul _) _ f
theorem blk3 (f : (main_v31 : Ref sig .tc).ty.Contents (Elt F)) : (win0_3.blk t0_0).view.read (Elt F) f = f :=
  Memref.read_access_unit_zero (Elt F) main_v31 (off := fun a => 0 * S1024x64.size a) (funext fun _ => Nat.zero_mul _) _ f
theorem blk4 (f w : (main_v34 : Ref sig .tc).ty.Contents (Elt F)) : (win0_4.blk t0_0).view.write (Elt F) f w Finset.univ = w :=
  Memref.write_access_unit_zero_univ (Elt F) main_v34 (off := fun a => 0 * S8x1x8x64.size a) (funext fun _ => Nat.zero_mul _) _ f w

theorem before0 (c : Dev nD) (d) : (dat m c).before (0 : Fin 5) t0_0 d = kIn m c := by
  refine (if_pos (fetch0_0 t0_0)).trans ?_; exact blk0 (F := F) _
theorem before1 (c : Dev nD) (d) : (dat m c).before (1 : Fin 5) t0_0 d = vIn m c := by
  refine (if_pos (fetch0_1 t0_0)).trans ?_; exact blk1 (F := F) _
theorem before2 (c : Dev nD) (d) : (dat m c).before (2 : Fin 5) t0_0 d = qIn m c := by
  refine (if_pos (fetch0_2 t0_0)).trans ?_; exact blk2 (F := F) _
theorem before3 (c : Dev nD) (d) : (dat m c).before (3 : Fin 5) t0_0 d = wIn m c := by
  refine (if_pos (fetch0_3 t0_0)).trans ?_; exact blk3 (F := F) _

/-- The result's array at the end: what the body leaves in its staging buffer. -/
theorem final4 (c : Dev nD) : (dat m c).arrAt (4 : Fin 5) cfg0.N = out m c := by
  rw [show cfg0.N = t0_0.val + 1 from N_0, (dat m c).arrAt_succ (4 : Fin 5) t0_0, if_pos (flush0_4 t0_0)]
  exact blk4 (F := F) _ _

/-! ## The body -/

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h, show (dat m c).recorded t = Set.univ from rfl]
  iintro H; iexists W
  isplitr; · ipureintro; exact fun _ _ => Or.inl trivial
  iexact H
theorem owes_out (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt Pipeline.owesWithin
  rw [h]
  iintro ⟨%W, -, H⟩; iexists W; iexact H

set_option maxRecDepth 4000 in
theorem body (c : Dev nD) : BodyObligation (dat (F := F) m c) (defs₀ (F := F)) 𝒱₀ () Set.univ := fun t => by
  obtain rfl := fin_N0 t
  rw [bigSep_W0, bigSep_W0]
  simp only [before0, before1, before2, before3]
  rw [show (dat m c).Φ t0_0.castSucc = iprop(entry m c ∗ commAny c ∗ regPts c) from rfl,
    show (dat m c).Φ t0_0.succ = iprop((semVal (barCell c) 0 ∗ Pipeline.ownSems0 osem c) ∗ commAny c ∗ regPts c) from rfl, ownSems_eq]
  unfold entry
  iintro ⟨⟨⟨⟨%κ, Hop⟩, HcB, HcV, Hlev⟩, ⟨%f, Hs⟩, Hreg⟩, HO, ⟨%d0, H0⟩, ⟨%d1, H1⟩, ⟨%d2, H2⟩, ⟨%d3, H3⟩, ⟨%d4, H4⟩⟩
  ihave HO' := (owes_out m c _ (O₀ c) (owed_first m c)) $$ HO
  icases HO' with ⟨%W, HO⟩
  iapply (talkRun (X m) κ c (kIn m c) (vIn m c) (qIn m c) (wIn m c) rfl W _)
  isplitl [Hop HcB HcV Hlev Hs HO H0 H1 H2 H3 H4]
  · unfold talkPre operands
    isplitl [Hop]; · iexact Hop
    isplitl [HcB]; · iexact HcB
    isplitl [HcV]; · iexact HcV
    isplitl [Hlev]; · iexact Hlev
    isplitl [Hs]; · iexists f; iexact Hs
    isplitl [H0 H1 H2 H3]
    · isplitl [H0]; · iapply (Entails.of_eq (owns_whole (c : Thread nD τ) cc0_stg0_0 fullShare (kIn m c))) $$ H0
      isplitl [H1]; · iapply (Entails.of_eq (owns_whole (c : Thread nD τ) cc0_stg1_0 fullShare (vIn m c))) $$ H1
      isplitl [H2]; · iapply (Entails.of_eq (owns_whole (c : Thread nD τ) cc0_stg2_0 fullShare (qIn m c))) $$ H2
      iapply (Entails.of_eq (owns_whole (c : Thread nD τ) cc0_stg3_0 fullShare (wIn m c))) $$ H3
    isplitl [H4]
    · iexists ((dat m c).before (4 : Fin 5) t0_0 d4)
      iapply (Entails.of_eq (owns_whole (c : Thread nD τ) cc0_stg4_0 fullShare ((dat m c).before (4 : Fin 5) t0_0 d4))) $$ H4
    iexact HO
  unfold talkPost operands
  iintro ⟨HzB, HzS, HzV, ⟨%f', Hs⟩, ⟨H0, H1, H2, H3⟩, H4, ⟨%W', HO⟩⟩
  isplitl [HzB HzS HzV Hs Hreg]
  · isplitl [HzB HzS HzV]
    · isplitl [HzB]; · iexact HzB
      isplitl [HzS] <;> iassumption
    isplitl [Hs]; · iexists f'; iexact Hs
    iexact Hreg
  isplitl [HO]; · iapply (owes_in m c t0_0.succ 0 (owed_last m c) W'); iexact HO
  isplitl [H0]; · iapply (Entails.of_eq (owns_whole (c : Thread nD τ) cc0_stg0_0 fullShare (kIn m c)).symm) $$ H0
  isplitl [H1]; · iapply (Entails.of_eq (owns_whole (c : Thread nD τ) cc0_stg1_0 fullShare (vIn m c)).symm) $$ H1
  isplitl [H2]; · iapply (Entails.of_eq (owns_whole (c : Thread nD τ) cc0_stg2_0 fullShare (qIn m c)).symm) $$ H2
  isplitl [H3]; · iapply (Entails.of_eq (owns_whole (c : Thread nD τ) cc0_stg3_0 fullShare (wIn m c)).symm) $$ H3
  iapply (Entails.of_eq (owns_whole (c : Thread nD τ) cc0_stg4_0 fullShare (out m c)).symm)
  iexact H4

end Cert.KernelIdeal.Paged

end
-- ==== Proof.Entry.lean ====
/-
  The region as a segment of the program: what it is entered with, and what it leaves.
-/
module

public import proofs.«01_k».proof.Proof.Region

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The exchange's state of device `c` while its send and receive cells are still closed. -/
def closed (κ : GSem nD τ sig → ℕ) (c : Dev nD) : sProp 𝕄 :=
  iprop(records (X m) κ ∗ atPos ER (barCell c) 0 ∅ 0
    ∗ per (fun j => openTok ER (sendCell c j)) ∗ per (fun j => openTok ER (recvCell c j))
    ∗ per (fun k => dutyTok ER (barCell (fwd k c)) 0 k)
    ∗ per (fun j => dutyTok ER (sendCell c j) 0 0) ∗ per (fun j => dutyTok ER (recvCell (fwd j c) j) 0 0))

/-- What the launch keeps for the region. -/
def kept (c : Dev nD) : sProp 𝕄 :=
  iprop((∃ κ, closed m κ c) ∗ cred (tallyAt (barCell c) () 3) ∗ per (fun j => cred (tallyAt (recvCell c j) () N)))

theorem open_send (κ : GSem nD τ sig → ℕ) (c : Dev nD) (j : Fin 3) :
    iprop(records (X m) κ ∗ openTok ER (sendCell c j) ∗ semVal (sendCell c j) 0)
      ⊢ (|={Set.univ}=> iprop(atPos ER (sendCell c j) 0 ∅ 0 ∗ reached ER (sendCell c j) 0) : sProp 𝕄) := by
  iintro ⟨#HR, Ho, Hs⟩
  imod (Rounds.cell_open ER (rd (X m)) (g := sendCell c j) (Set.mem_univ (κ (sendCell c j)))) $$ [Ho Hs] with ⟨Hat, Hr⟩
  · isplitr; · iapply (inv_send (X m) κ c j); iexact HR
    isplitl [Ho] <;> iassumption
  imodintro
  isplitl [Hat] <;> iassumption

theorem open_recv (κ : GSem nD τ sig → ℕ) (c : Dev nD) (j : Fin 3) :
    iprop(records (X m) κ ∗ openTok ER (recvCell c j) ∗ semVal (recvCell c j) 0)
      ⊢ (|={Set.univ}=> iprop(atPos ER (recvCell c j) 0 ∅ 0 ∗ reached ER (recvCell c j) 0) : sProp 𝕄) := by
  iintro ⟨#HR, Ho, Hs⟩
  imod (Rounds.cell_open ER (rd (X m)) (g := recvCell c j) (Set.mem_univ (κ (recvCell c j)))) $$ [Ho Hs] with ⟨Hat, Hr⟩
  · isplitr; · iapply (inv_recv (X m) κ c j); iexact HR
    isplitl [Ho] <;> iassumption
  imodintro
  isplitl [Hat] <;> iassumption

theorem opens (c : Dev nD) : iprop(kept m c ∗ Pipeline.ownSems0 osem c ∗ levAts L lv) ⊢ (|={Set.univ}=> entry m c : sProp 𝕄) := by
  rw [ownSems_eq]
  unfold kept entry closed
  iintro ⟨⟨⟨%κ, ⟨#HR, HatB, ⟨HoS0, HoS1, HoS2⟩, ⟨HoV0, HoV1, HoV2⟩, HtB, HtS, HtV⟩⟩, HcB, HcV⟩, ⟨⟨HsS0, HsS1, HsS2⟩, ⟨HsV0, HsV1, HsV2⟩⟩, Hlev⟩
  imod (open_send m κ c 0) $$ [HoS0 HsS0] with ⟨HaS0, HrS0⟩
  · isplitr; · iexact HR
    isplitl [HoS0] <;> iassumption
  imod (open_send m κ c 1) $$ [HoS1 HsS1] with ⟨HaS1, HrS1⟩
  · isplitr; · iexact HR
    isplitl [HoS1] <;> iassumption
  imod (open_send m κ c 2) $$ [HoS2 HsS2] with ⟨HaS2, HrS2⟩
  · isplitr; · iexact HR
    isplitl [HoS2] <;> iassumption
  imod (open_recv m κ c 0) $$ [HoV0 HsV0] with ⟨HaV0, HrV0⟩
  · isplitr; · iexact HR
    isplitl [HoV0] <;> iassumption
  imod (open_recv m κ c 1) $$ [HoV1 HsV1] with ⟨HaV1, HrV1⟩
  · isplitr; · iexact HR
    isplitl [HoV1] <;> iassumption
  imod (open_recv m κ c 2) $$ [HoV2 HsV2] with ⟨HaV2, HrV2⟩
  · isplitr; · iexact HR
    isplitl [HoV2] <;> iassumption
  imodintro
  isplitr [HcB HcV Hlev]
  · iexists κ
    unfold opened
    isplitr; · iexact HR
    isplitl [HatB]; · iexact HatB
    isplitl [HaS0 HaS1 HaS2]
    · isplitl [HaS0]; · iexact HaS0
      isplitl [HaS1] <;> iassumption
    isplitl [HaV0 HaV1 HaV2]
    · isplitl [HaV0]; · iexact HaV0
      isplitl [HaV1] <;> iassumption
    isplitl [HrS0 HrS1 HrS2]
    · isplitl [HrS0]; · iexact HrS0
      isplitl [HrS1] <;> iassumption
    isplitl [HrV0 HrV1 HrV2]
    · isplitl [HrV0]; · iexact HrV0
      isplitl [HrV1] <;> iassumption
    isplitl [HtB]; · iexact HtB
    isplitl [HtS]; · iexact HtS
    iexact HtV
  isplitl [HcB]; · iexact HcB
  isplitl [HcV]; · iexact HcV
  iexact Hlev

theorem held_none (c : Dev nD) (W : Valuation τ sig (Elt F)) : (StableHlo.held (c.tc : Thread nD τ) ∅ W : sProp 𝕄) = BI.emp := by
  unfold StableHlo.held; exact BI.bigSep_empty

theorem enters (c : Dev nD) : iprop(Pipeline.scopedRest (Pipeline.pin (pcfgs (F := F)) adm 0).spec c ∗ (∃ r, prngReg c r)
      ∗ StableHlo.held (c.tc : Thread nD τ) ∅ (mid m c) ∗ entry m c) ⊢ (pdats m 0 c).Φ 0 := by
  rw [show (pdats m 0 c).Φ 0 = iprop(entry m c ∗ commAny c ∗ regPts c) from rfl]
  iintro ⟨Hs, Hp, -, He⟩
  isplitl [He]; · iexact He
  isplitl [Hs]; · iapply (Entails.of_eq (scopedRest0_eq c)) $$ Hs
  iexact Hp

/-- The contents the region leaves. -/
abbrev fin (c : Dev nD) : Valuation τ sig (Elt F) := Function.update (mid m c) main_v34 (out m c)

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (fin m c) ∗ Pipeline.ownSems0 osem c ∗ semVal (barCell c) 0) := by
  rw [show (pdats m 0 c).Φ (Fin.last _) = iprop((semVal (barCell c) 0 ∗ Pipeline.ownSems0 osem c) ∗ commAny c ∗ regPts c) from rfl,
    held_none]
  iintro ⟨⟨HzB, Hz⟩, Hs, Hp⟩
  isplitl [Hs]; · iapply (Entails.of_eq (scopedRest0_eq c).symm) $$ Hs
  isplitl [Hp]; · iexact Hp
  isplitr; · iempintro
  isplitl [Hz] <;> iassumption

theorem owed_pos {c : Dev nD} {g : GSem nD τ sig} {u : Unit} (h : 0 < O₀ c g u) :
    (∃ j : Fin 3, g = recvCell (fwd j c) j) ∨ ∃ j : Fin 3, g = barCell (fwd j c) := by
  unfold O₀ at h
  rw [Pi.add_apply, Finsupp.add_apply, Pi.add_apply, Finsupp.add_apply, Pi.add_apply, Finsupp.add_apply] at h
  rcases Nat.eq_zero_or_pos (Orecv c g u) with h3 | h3
  · rcases Nat.eq_zero_or_pos ((tallyAt (barCell (fwd 2 c)) () 1 : CellTallies nD τ sig Unit) g u) with h2 | h2
    · rcases Nat.eq_zero_or_pos ((tallyAt (barCell (fwd 1 c)) () 1 : CellTallies nD τ sig Unit) g u) with h1 | h1
      · exact .inr ⟨0, tally_pos (u := u) (n := 1) (by omega)⟩
      · exact .inr ⟨1, tally_pos h1⟩
    · exact .inr ⟨2, tally_pos h2⟩
  · exact .inl (Orecv_pos h3)

theorem above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · rcases owed_pos h with ⟨j, rfl⟩ | ⟨j, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem kit : Pipeline.PLaunchFacts (nD := nD) (τ := τ) (pcfgs (F := F)) 0 := launch0.toP

/-- The buffers that are no window's array. -/
abbrev others : Finset (DevRef τ sig) := Pipeline.ucRefs τ sig \ Pipeline.arrRefs (τ := τ) (pcfgs (F := F) 0).spec

theorem staging_low : ∀ (w : Fin 5) (s : Fin (spec0 w).nbuf), ¬ 8 ≤ ((spec0 w).sem s).val := by decide

theorem arr_sub : Pipeline.arrRefs (τ := τ) (pcfgs (F := F) 0).spec ⊆ Pipeline.ucRefs τ sig :=
  (by decide : Pipeline.arrRefs (τ := τ) spec0 ⊆ Pipeline.ucRefs τ sig)

theorem out_arr : (Proc.devRef .tc main_v34 : DevRef τ sig) ∈ Pipeline.arrRefs (τ := τ) (pcfgs (F := F) 0).spec :=
  (by decide : (Proc.devRef .tc main_v34 : DevRef τ sig) ∈ Pipeline.arrRefs (τ := τ) spec0)

theorem fin_of (c : Dev nD) (b : DevRef τ sig) (h : b ≠ Proc.devRef .tc main_v34) : fin m c b = mid m c b := Function.update_of_ne h ..
theorem fin_out (c : Dev nD) : fin m c (Proc.devRef .tc main_v34) = out m c := Function.update_self ..

theorem arr_last (c : Dev nD) : ∀ w : Fin 5, (dat (F := F) m c).arrAt w cfg0.N = fin m c (Proc.devRef .tc (Pipeline.arrRef spec0 w)) := fun
  | 0 => ((dat m c).arrAt_in (0 : Fin 5) rfl _).trans (fin_of m c (Proc.devRef .tc main_arg1) (by decide)).symm
  | 1 => ((dat m c).arrAt_in (1 : Fin 5) rfl _).trans (fin_of m c (Proc.devRef .tc main_arg2) (by decide)).symm
  | 2 => ((dat m c).arrAt_in (2 : Fin 5) rfl _).trans (fin_of m c (Proc.devRef .tc main_v33) (by decide)).symm
  | 3 => ((dat m c).arrAt_in (3 : Fin 5) rfl _).trans (fin_of m c (Proc.devRef .tc main_v31) (by decide)).symm
  | 4 => (final4 m c).trans (fin_out m c).symm

set_option backward.isDefEq.respectTransparency.types false in
/-- The region, entered holding every buffer and owing the exchange. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kit rfl (fun c => (body m c).loose)
    (fun _ => 0) O₀ (fun c => (owed_first m c).trans (zero_add _).symm) (owed_last m) (fun _ => rfl)
    (fun c => (dat m c).share_full fun _ => rfl)
    (mid m) (fin m)
    (fun c b hb => fin_of m c b (fun e => (Finset.mem_sdiff.mp (Finset.mem_sdiff.mp hb).1).2 (by rw [e]; exact out_arr (F := F))))
    (kept m) (fun c => semVal (barCell c) 0) (entry m) (fun c => semVal (barCell c) 0) (opens m) (enters m) (leaves m)
    (fun c => by iintro H; imodintro; iexact H)
    (fun _ => 0)
    ⟨fun c w s => by rw [L_tc]; exact Finset.mem_singleton_self _, fun c w s => le_of_eq (if_neg (staging_low w s)), fun c t g i h => above m c t g i h⟩
    (fun _ => iprop(emp))
    (fun c w => rfl) (arr_last m)

/-- What rides beside the buffers: the exchange's state, the register, and what is owed. -/
def rides (c : Dev nD) : sProp 𝕄 := iprop(kept m c ∗ (∃ r, prngReg c r) ∗ ∃ W, owes (c : Thread nD τ) (O₀ c) W)

theorem reg_pre (c : Dev nD) : iprop(StableHlo.held (c : Thread nD τ) (Pipeline.ucRefs τ sig) (mid m c) ∗ rides m c) ⊢ (reg m).pre c := by
  show _ ⊢ iprop(StableHlo.held (c.tc : Thread nD τ) (Pipeline.arrRefs (τ := τ) (pcfgs (F := F) 0).spec) (mid m c) ∗ (∃ r, prngReg c r)
    ∗ (StableHlo.held (c.tc : Thread nD τ) (others (F := F)) (mid m c) ∗ emp) ∗ kept m c ∗ ∃ Wd, owes (c : Thread nD τ) (0 + O₀ c) Wd)
  rw [zero_add, StableHlo.held_sub_split (c : Thread nD τ) (arr_sub (F := F)) (mid m c)]
  unfold rides
  iintro ⟨⟨Ha, Ho⟩, Hk, Hp, HO⟩
  isplitl [Ha]; · iexact Ha
  isplitl [Hp]; · iexact Hp
  isplitl [Ho]
  · isplitl [Ho]; · iexact Ho
    iempintro
  isplitl [Hk] <;> iassumption

theorem reg_post (c : Dev nD) : (reg m).post c
    ⊢ iprop(StableHlo.held (c : Thread nD τ) (Pipeline.ucRefs τ sig) (fin m c) ∗ (semVal (barCell c) 0 ∗ ∃ W, owes (c : Thread nD τ) (0 : CellTallies nD τ sig Unit) W)) := by
  show iprop(StableHlo.held (c.tc : Thread nD τ) (Pipeline.arrRefs (τ := τ) (pcfgs (F := F) 0).spec) (fin m c) ∗ (∃ r, prngReg c r)
    ∗ (StableHlo.held (c.tc : Thread nD τ) (others (F := F)) (fin m c) ∗ emp) ∗ semVal (barCell c) 0 ∗ ∃ Wd, owes (c : Thread nD τ) (0 : CellTallies nD τ sig Unit) Wd) ⊢ _
  rw [StableHlo.held_sub_split (c : Thread nD τ) (arr_sub (F := F)) (fin m c)]
  iintro ⟨Ha, -, ⟨Ho, -⟩, Hb, HO⟩
  isplitl [Ha Ho]; · isplitl [Ha] <;> iassumption
  isplitl [Hb] <;> iassumption

end Cert.KernelIdeal.Paged

end
-- ==== Proof.Launch.lean ====
/-
  The launch: the exchange's cells allocated, what each device needs of them dealt to it, and the run of the program.
-/
module

public import proofs.«01_k».proof.Proof.Entry

@[expose] public section

noncomputable section

namespace Cert.KernelIdeal.Paged

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties, as finite sets -/

theorem sendS_inj : Function.Injective (fun j => (SemLoc.dma (sendS j) : SemLoc sig)) := by decide
theorem recvS_inj : Function.Injective (fun j => (SemLoc.dma (recvS j) : SemLoc sig)) := by decide
theorem send_ne_recv : ∀ i j : Fin 3, (SemLoc.dma (sendS i) : SemLoc sig) ≠ .dma (recvS j) := by decide

def barEmb : Dev nD ↪ GSem nD τ sig := ⟨fun c => barCell c, fun _ _ h => congrArg (fun g : GSem nD τ sig => g.1.1) h⟩
def sendEmb : Dev nD × Fin 3 ↪ GSem nD τ sig := ⟨fun p => sendCell p.1 p.2, fun _ _ h =>
  Prod.ext (congrArg (fun g : GSem nD τ sig => g.1.1) h) (sendS_inj (congrArg Prod.snd h))⟩
def recvEmb : Dev nD × Fin 3 ↪ GSem nD τ sig := ⟨fun p => recvCell p.1 p.2, fun _ _ h =>
  Prod.ext (congrArg (fun g : GSem nD τ sig => g.1.1) h) (recvS_inj (congrArg Prod.snd h))⟩

abbrev barCells : Finset (GSem nD τ sig) := Finset.univ.map barEmb
abbrev sendCells : Finset (GSem nD τ sig) := Finset.univ.map sendEmb
abbrev recvCells : Finset (GSem nD τ sig) := Finset.univ.map recvEmb

theorem send_recv : Disjoint sendCells recvCells := by
  rw [Finset.disjoint_left]
  intro g h h'
  obtain ⟨p, -, rfl⟩ := Finset.mem_map.mp h
  obtain ⟨q, -, e⟩ := Finset.mem_map.mp h'
  exact send_ne_recv p.2 q.2 (congrArg Prod.snd e).symm
theorem bar_dma : Disjoint barCells (sendCells ∪ recvCells) := by
  rw [Finset.disjoint_left]
  intro g h h'
  obtain ⟨c, -, rfl⟩ := Finset.mem_map.mp h
  rcases Finset.mem_union.mp h' with h' | h' <;> obtain ⟨q, -, e⟩ := Finset.mem_map.mp h' <;> exact dma_ne_bar _ (congrArg Prod.snd e)

/-- The duties: every cell's first round. -/
def barTok : Dev nD × Fin 3 ↪ GSem nD τ sig × ℕ × Fin 3 := ⟨fun p => (barCell p.1, 0, p.2), fun _ _ h =>
  Prod.ext (congrArg (fun t : GSem nD τ sig × ℕ × Fin 3 => t.1.1.1) h) (congrArg (fun t : GSem nD τ sig × ℕ × Fin 3 => t.2.2) h)⟩
def cellTok (e : Dev nD × Fin 3 ↪ GSem nD τ sig) : Dev nD × Fin 3 ↪ GSem nD τ sig × ℕ × Fin 3 :=
  ⟨fun p => (e p, 0, 0), fun _ _ h => e.injective (congrArg (fun t : GSem nD τ sig × ℕ × Fin 3 => t.1) h)⟩

abbrev dmaToks : Finset (GSem nD τ sig × ℕ × Fin 3) := Finset.univ.map (cellTok sendEmb) ∪ Finset.univ.map (cellTok recvEmb)
abbrev allToks : Finset (GSem nD τ sig × ℕ × Fin 3) := Finset.univ.map barTok ∪ dmaToks

theorem tok_send_recv : Disjoint (Finset.univ.map (cellTok sendEmb)) (Finset.univ.map (cellTok recvEmb)) := by
  rw [Finset.disjoint_left]
  intro t h h'
  obtain ⟨p, -, rfl⟩ := Finset.mem_map.mp h
  obtain ⟨q, -, e⟩ := Finset.mem_map.mp h'
  exact send_ne_recv p.2 q.2 (congrArg (fun t : GSem nD τ sig × ℕ × Fin 3 => t.1.2) e).symm
theorem tok_bar_dma : Disjoint (Finset.univ.map barTok) dmaToks := by
  rw [Finset.disjoint_left]
  intro t h h'
  obtain ⟨c, -, rfl⟩ := Finset.mem_map.mp h
  rcases Finset.mem_union.mp h' with h' | h' <;> obtain ⟨q, -, e⟩ := Finset.mem_map.mp h' <;>
    exact dma_ne_bar _ (congrArg (fun t : GSem nD τ sig × ℕ × Fin 3 => t.1.2) e)

/-- A resource over devices and three places, device by device. -/
theorem by_device (Φ : Dev nD × Fin 3 → sProp 𝕄) : bigSep Finset.univ Φ = bigSep Finset.univ fun c : Dev nD => per (fun j => Φ (c, j)) := by
  rw [bigSep_univ_prod]
  exact bigSep_congr fun c _ => three _

/-- The same, each of the three taken at another device. -/
theorem around (Φ : Dev nD → Fin 3 → sProp 𝕄) :
    (bigSep Finset.univ fun c : Dev nD => per (fun j => Φ c j)) = bigSep Finset.univ fun c : Dev nD => per (fun j => Φ (fwd j c) j) := by
  unfold per
  rw [bigSep_sep', bigSep_sep', bigSep_sep', bigSep_sep', bigSep_univ_equiv (turn 0) (fun c => Φ c 0), bigSep_univ_equiv (turn 1) (fun c => Φ c 1),
    bigSep_univ_equiv (turn 2) (fun c => Φ c 2)]
  rfl

/-- Every duty's token, dealt to the device that pays it. -/
theorem toks : bigSep allToks (fun x => (dutyTok ER x.1 x.2.1 x.2.2 : sProp 𝕄))
    = iprop((bigSep Finset.univ fun c : Dev nD => per (fun k => dutyTok ER (barCell (fwd k c)) 0 k))
      ∗ (bigSep Finset.univ fun c : Dev nD => per (fun j => dutyTok ER (sendCell c j) 0 0))
      ∗ (bigSep Finset.univ fun c : Dev nD => per (fun j => dutyTok ER (recvCell (fwd j c) j) 0 0))) := by
  rw [bigSep_union tok_bar_dma, bigSep_union tok_send_recv, bigSep_map, bigSep_map, bigSep_map, by_device, by_device, by_device,
    ← around (F := F) (fun c k => dutyTok ER (barCell c) 0 k), ← around (F := F) (fun c j => dutyTok ER (recvCell c j) 0 0)]
  rfl

/-! ## The credits of the launch -/

theorem sum_turn (k : Fin 3) (c : Dev nD) (n : ℕ) : (∑ d : Dev nD, if c = fwd k d then n else 0) = n := by
  rw [Finset.sum_congr rfl fun d _ => if_congr (show c = fwd k d ↔ d = bwd k c from
    ⟨fun h => by rw [h, bwd_fwd], fun h => by rw [h, fwd_bwd]⟩) rfl rfl, Finset.sum_ite_eq' Finset.univ (bwd k c) fun _ => n, if_pos (Finset.mem_univ _)]

theorem cell_eq_iff {s t : SemLoc sig} (c d : Dev nD) : ((((c : Thread nD τ), s) : GSem nD τ sig) = ((d : Thread nD τ), t)) ↔ c = d ∧ s = t :=
  ⟨fun h => ⟨congrArg (fun g : GSem nD τ sig => g.1.1) h, congrArg Prod.snd h⟩, fun ⟨h, h'⟩ => by rw [h, h']⟩

theorem at_cell (c d : Dev nD) (s t : SemLoc sig) (n : ℕ) :
    (tallyAt (((d : Thread nD τ), t) : GSem nD τ sig) () n : CellTallies nD τ sig Unit) ((c : Thread nD τ), s) () = if s = t then (if c = d then n else 0) else 0 := by
  rw [tallyAt_apply]
  by_cases hs : s = t
  · by_cases hc : c = d
    · rw [if_pos ⟨by rw [hs, hc], rfl⟩, if_pos hs, if_pos hc]
    · rw [if_neg (fun h => hc ((cell_eq_iff c d).mp h.1).1), if_pos hs, if_neg hc]
  · rw [if_neg (fun h => hs ((cell_eq_iff c d).mp h.1).2), if_neg hs]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  have e (d : Dev nD) : O₀ d (barCell c) () = ((if c = fwd 2 d then 1 else 0) + (if c = fwd 1 d then 1 else 0)) + (if c = fwd 0 d then 1 else 0) := by
    unfold O₀ Orecv
    simp only [Pi.add_apply, Finsupp.add_apply, at_cell, if_neg (dma_ne_bar _).symm, if_true, zero_add]
  rw [Pipeline.launchCredit_owing, Finsupp.single_eq_same, Finset.sum_congr rfl fun d _ => e d, Finset.sum_add_distrib, Finset.sum_add_distrib,
    sum_turn, sum_turn, sum_turn]

theorem launch_recv (c : Dev nD) (j : Fin 3) :
    tallyOn (recvCell c j) (launchCredit (Pipeline.owing O₀) 0 (recvCell c j)) = (tallyAt (recvCell c j) () N : CellTallies nD τ sig Unit) := by
  unfold tallyAt
  refine congrArg _ (Finsupp.ext fun u => ?_)
  have e (d : Dev nD) : O₀ d (recvCell c j) () = if c = fwd j d then N else 0 := by
    unfold O₀ Orecv
    simp only [Pi.add_apply, Finsupp.add_apply, at_cell, if_neg (dma_ne_bar _), add_zero]
    revert j; intro j
    have hne : ∀ i : Fin 3, i ≠ j → (SemLoc.dma (recvS j) : SemLoc sig) ≠ .dma (recvS i) := fun i h e => h (recvS_inj e).symm
    fin_cases j
    · rw [if_neg (hne 2 (by decide)), if_neg (hne 1 (by decide)), zero_add, zero_add]; exact if_pos rfl
    · rw [if_neg (hne 2 (by decide)), if_neg (hne 0 (by decide)), zero_add, add_zero]; exact if_pos rfl
    · rw [if_neg (hne 1 (by decide)), if_neg (hne 0 (by decide)), add_zero, add_zero]; exact if_pos rfl
  rw [Pipeline.launchCredit_owing, Finsupp.single_eq_same, Finset.sum_congr rfl fun d _ => e d, sum_turn]

theorem creds (c : Dev nD) : (Pipeline.launchCred O₀ c : sProp 𝕄)
    ⊢ iprop(cred (tallyAt (barCell c) () 3) ∗ per (fun j => cred (tallyAt (recvCell c j) () N))) := by
  unfold Pipeline.launchCred
  show _ ⊢ iprop(cred (tallyAt (barCell c) () 3) ∗ cred (tallyAt (recvCell c 0) () N) ∗ cred (tallyAt (recvCell c 1) () N) ∗ cred (tallyAt (recvCell c 2) () N))
  rw [← launch_bar, ← launch_recv, ← launch_recv, ← launch_recv]
  refine (BI.bigSep_subset (Finset.subset_univ ({.reg barS, .dma (recvS 0), .dma (recvS 1), .dma (recvS 2)} : Finset (SemLoc sig)))).trans ?_
  rw [bigSep_insert (by decide), bigSep_insert (by decide), bigSep_insert (by decide), bigSep_singleton]
  exact BI.Entails.refl _

/-! ## What the launch deals -/

theorem zip (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
theorem unzip (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-- The ghost state: the windows', and the exchange's. -/
def u₀ : UU :=
  (initOf (Pipeline.cells cfgs cellOf_inj) (Pipeline.launchToks cfgs cellOf_inj), launchOf barCells (sendCells ∪ recvCells) allToks)

/-- The exchange's ghost state, all of it with device 0 until it is dealt. -/
def G (c : Dev nD) : sProp 𝕄 := if c = 0 then BI.own (ER (launchOf barCells (sendCells ∪ recvCells) allToks)) else iprop(emp)

theorem G_eq : bigSep Finset.univ (G (F := F)) = BI.own (ER (launchOf barCells (sendCells ∪ recvCells) allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The part of the exchange's state that is device `c`'s alone. -/
def own₀ (c : Dev nD) : sProp 𝕄 :=
  iprop(atPos ER (barCell c) 0 ∅ 0 ∗ (per (fun j => openTok ER (sendCell c j)) ∗ per (fun j => openTok ER (recvCell c j)))
    ∗ per (fun k => dutyTok ER (barCell (fwd k c)) 0 k) ∗ per (fun j => dutyTok ER (sendCell c j) 0 0) ∗ per (fun j => dutyTok ER (recvCell (fwd j c) j) 0 0))

/-- The rest of what device `c` starts from. -/
def plain (c : Dev nD) : sProp 𝕄 :=
  iprop(StableHlo.held (c : Thread nD τ) (Pipeline.ucRefs τ sig) (V0 m c)
    ∗ (cred (tallyAt (barCell c) () 3) ∗ per (fun j => cred (tallyAt (recvCell c j) () N))) ∗ owes (c : Thread nD τ) (O₀ c) ∅ ∗ ∃ r, prngReg c r)

abbrev T₀ (c : Dev nD) : sProp 𝕄 := iprop(StableHlo.held (c : Thread nD τ) (Pipeline.ucRefs τ sig) (V0 m c) ∗ rides m c)

theorem start (κ : GSem nD τ sig → ℕ) (c : Dev nD) : iprop(records (X m) κ ∗ (own₀ c ∗ plain m c)) ⊢ T₀ m c := by
  unfold T₀ own₀ plain rides kept closed
  iintro ⟨#HR, ⟨HaB, ⟨HoS, HoV⟩, HtB, HtS, HtV⟩, Hh, ⟨HcB, HcV⟩, HO, Hp⟩
  isplitl [Hh]; · iexact Hh
  isplitr [Hp HO]
  · isplitr [HcB HcV]
    · iexists κ
      isplitr; · iexact HR
      isplitl [HaB]; · iexact HaB
      isplitl [HoS]; · iexact HoS
      isplitl [HoV]; · iexact HoV
      isplitl [HtB]; · iexact HtB
      isplitl [HtS]; · iexact HtS
      iexact HtV
    isplitl [HcB]; · iexact HcB
    iexact HcV
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
    rw [sems_eq, show unscopedBufs c (fun b => m ((c : Thread nD τ).loc b)) = (StableHlo.held (c : Thread nD τ) (Pipeline.ucRefs τ sig) (V0 m c) : sProp 𝕄) from
      Pipeline.unscopedBufs_held (Ix := Unit) (Name := ℕ) (U := UU) (Lvl := ℕ) c (V0 m c)]
    unfold plain
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hreach : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep (sendCells ∪ recvCells) (fun g => (openTok ER g : sProp 𝕄))
      ⊢ bigSep Finset.univ (fun c : Dev nD => iprop(per (fun j => openTok ER (sendCell c j)) ∗ per (fun j => openTok ER (recvCell c j)))) :=
    (Entails.of_eq (by rw [bigSep_union send_recv, bigSep_map, bigSep_map, by_device, by_device]; rfl)).trans (zip (F := F) _ _)
  have hinv (κ : GSem nD τ sig → ℕ) : bigSep (barCells ∪ (sendCells ∪ recvCells)) (fun g => (cellInv ER (rd (X m)) (κ g) g : sProp 𝕄))
      ⊢ iprop((bigSep Finset.univ fun c : Dev nD => cellInv ER (rd (X m)) (κ (barCell c)) (barCell c))
        ∗ (bigSep Finset.univ fun p : Dev nD × Fin 3 => cellInv ER (rd (X m)) (κ (sendCell p.1 p.2)) (sendCell p.1 p.2))
        ∗ (bigSep Finset.univ fun p : Dev nD × Fin 3 => cellInv ER (rd (X m)) (κ (recvCell p.1 p.2)) (recvCell p.1 p.2))) :=
    Entails.of_eq (by rw [bigSep_union bar_dma, bigSep_union send_recv, bigSep_map, bigSep_map, bigSep_map]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => hcore c) $$ H
  ihave H2 := (unzip (F := F) _ _) $$ H'; icases H2 with ⟨HB, H3⟩
  ihave H4 := (unzip (F := F) _ _) $$ H3; icases H4 with ⟨Hv, HG⟩
  ihave Hu := (Entails.of_eq (G_eq (F := F))) $$ HG
  imod (Rounds.fund_launch ER (rd (X m)) bar_dma (fun g _ h => h) allToks) $$ [Hv Hu] with ⟨%κ, -, #Hinv, #Hr, Hat, Hopen, Htok⟩
  · isplitl [Hv]
    · iapply hv $$ Hv
    · iexact Hu
  imodintro
  iapply (bigSep_with_persistent (R := records (X m) κ) (Φ := fun c => iprop(own₀ c ∗ plain m c)) fun c _ => start m κ c)
  isplitr
  · unfold records
    ihave Hi := (hinv κ) $$ Hinv
    icases Hi with ⟨H1, H2, H3⟩
    isplitl [H1]; · iexact H1
    isplitl [H2]; · iexact H2
    isplitl [H3]; · iexact H3
    iapply hreach $$ Hr
  iapply (zip (F := F) _ _)
  isplitr [HB]
  · unfold own₀
    iapply (zip (F := F) _ _); isplitl [Hat]; · iapply hat $$ Hat
    iapply (zip (F := F) _ _); isplitl [Hopen]; · iapply hopen $$ Hopen
    ihave Ht := (Entails.of_eq (toks (F := F))) $$ Htok
    icases Ht with ⟨H1, H2, H3⟩
    iapply (zip (F := F) _ _); isplitl [H1]; · iexact H1
    iapply (zip (F := F) _ _); isplitl [H2]; · iexact H2
    iexact H3
  · iexact HB

/-! ## The run -/

theorem unscoped_bar : ∀ sm : SemLoc sig, sm.isScoped .tc = false → sm = .reg barS := by decide

theorem fin_arg (c : Dev nD) (r : Ref sig .tc) (h : r ∉ hostOps0_W) (h' : (Proc.devRef .tc r : DevRef τ sig) ≠ Proc.devRef .tc main_v34) :
    fin m c (Proc.devRef .tc r) = m ((c : Thread nD τ).loc r) := by
  rw [fin_of m c _ h', mid_eq]; exact V1_of m c r h

/-- What a core's memory holds in the end. -/
def Ends (c : Dev nD) (s : MemSt nD τ sig (Elt F)) : Prop :=
  (s.mem ((c.tc : Thread nD τ).loc main_v34) = out m c ∧ s.mem ((c.tc : Thread nD τ).loc main_arg0) = m ((c.tc : Thread nD τ).loc main_arg0)
    ∧ s.mem ((c.tc : Thread nD τ).loc main_arg1) = m ((c.tc : Thread nD τ).loc main_arg1) ∧ s.mem ((c.tc : Thread nD τ).loc main_arg2) = m ((c.tc : Thread nD τ).loc main_arg2)
    ∧ s.mem ((c.tc : Thread nD τ).loc main_arg3) = m ((c.tc : Thread nD τ).loc main_arg3) ∧ s.mem ((c.tc : Thread nD τ).loc main_arg4) = m ((c.tc : Thread nD τ).loc main_arg4))

set_option backward.isDefEq.respectTransparency.types false in
/-- From any memory with its counters at zero, every run ends, on every device with the result of the exchange in the
    result's buffer and the arguments as they were, and with every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m 𝒱₀ L lv (fun _ => rides m) () (pdats m) (reg m))
    (fun c Q => by
      rewrite [main_chain c, Pipeline.Seg.run_eq_chain,
        show (segs m 𝒱₀ L lv (fun _ => rides m) () (pdats m) (reg m) c).map Pipeline.Seg.prog = [
          StableHlo.seq (hostOps0 c), Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      rw [G_eq]; iexact HX)
    (T₀ m) (fun c => iprop(StableHlo.held (c : Thread nD τ) (Pipeline.ucRefs τ sig) (fin m c) ∗ semVal (barCell c) 0))
    (fun c => ⟨.rfl, (show iprop(StableHlo.held (c : Thread nD τ) (Pipeline.ucRefs τ sig) (V1 m c) ∗ rides m c) ⊢ (reg m).pre c from
        (by rw [← mid_eq]; exact reg_pre m c)), (reg_post m c).trans (by
      iintro ⟨Hh, Hb, HO⟩
      isplitr [HO]; · isplitl [Hh] <;> iassumption
      iexact HO)⟩)
    (init m ρ)
    (fun c s => Ends m c s ∧ s.sem (barCell c) = 0)
    (fun c s' => by
      unfold StableHlo.held
      iintro ⟨⟨Hh, Hb⟩, HSI⟩
      icombine HSI Hb gives %hb
      ihave Hr := (pointsTo_read_all (Pipeline.ucRefs τ sig) (fun b => ((c : Thread nD τ).1, b)) (fin m c) s') $$ [Hh HSI]
      · isplitl [Hh] <;> iassumption
      icases Hr with ⟨%h, HSI⟩
      imodintro
      isplitr
      · ipureintro
        have rd (r : Ref sig .tc) (hr : ¬ (Proc.devRef (τ := τ) .tc r).isScoped) := h (Proc.devRef .tc r) (Finset.mem_filter.mpr ⟨StableHlo.devRef_mem_tcRefs r, hr⟩)
        exact ⟨⟨(rd main_v34 (by decide)).trans (fin_out m c), (rd main_arg0 (by decide)).trans (fin_arg m c main_arg0 (by decide) (by decide)),
          (rd main_arg1 (by decide)).trans (fin_arg m c main_arg1 (by decide) (by decide)), (rd main_arg2 (by decide)).trans (fin_arg m c main_arg2 (by decide) (by decide)),
          (rd main_arg3 (by decide)).trans (fin_arg m c main_arg3 (by decide) (by decide)), (rd main_arg4 (by decide)).trans (fin_arg m c main_arg4 (by decide) (by decide))⟩,
          by simpa using hb⟩
      iexact HSI)
    (fun s h hs => ⟨fun c => (h c).1, sem_eq_zero hs fun c sm hsm => by
        obtain rfl := unscoped_bar sm hsm
        exact (h c).2⟩)

end Cert.KernelIdeal.Paged

end
-- ==== Proof.Same.lean ====
/-
  The kernel and its idealisation have one text: their body tables are one.
-/
module

public import proofs.«01_k».proof.Proof.Gen.Kernel
public import proofs.«01_k».proof.Proof.Gen.KernelIdeal

@[expose] public section

noncomputable section

namespace Cert.KernelIdeal.Paged

open Idealize.ShloMosaic Idealize.SL.Sem

variable {F : FTy → Type} [FloatOps F]

theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs (Cert.KernelIdeal.pcfgs (F := F))) bodies_same

end Cert.KernelIdeal.Paged

end
-- ==== Proof.Payload.lean ====
/-
  What a device computes, element by element, over the reals: the maxima, the weights, their sums, the weighted values
  of one head, and the combination of the four slots.
-/
module

public import proofs.«01_k».proof.Proof.Slots
public import Idealize.ShloMosaic.Lib.Pointwise

@[expose] public section

noncomputable section

namespace Cert.KernelIdeal.Paged

open Idealize.ShloMosaic Cert.KernelIdeal Cert.KernelIdeal.Gen

variable (kb vb : S64x16x8x64.Idx → Elt Ideal .bf16) (qb : S8x8x64.Idx → Elt Ideal .bf16) (wb : S1024x64.Idx → Elt Ideal .f32)

/-! ## The loads -/

theorem ldK_apply (h : Fin 8) (p : Fin 64) (t : Fin 16) (d : Fin 64) : ldK kb h (ix4 p t 0 d) = kb (ix4 p t h d) :=
  congrArg kb (funext fun a => Fin.ext (by
    fin_cases a
    · show 0 + 1 * p.val = p.val; omega
    · show 0 + 1 * t.val = t.val; omega
    · show h.val + 1 * 0 = h.val; omega
    · show 0 + 1 * d.val = d.val; omega))

theorem ldV_apply (h : Fin 8) (p : Fin 64) (t : Fin 16) (d : Fin 64) : ldV vb h (ix4 p t 0 d) = vb (ix4 p t h d) :=
  congrArg vb (funext fun a => Fin.ext (by
    fin_cases a
    · show 0 + 1 * p.val = p.val; omega
    · show 0 + 1 * t.val = t.val; omega
    · show h.val + 1 * 0 = h.val; omega
    · show 0 + 1 * d.val = d.val; omega))

theorem ldQ_apply (h b : Fin 8) (d : Fin 64) : ldQ qb h (ix3 0 b d) = qb (ix3 h b d) :=
  congrArg qb (funext fun a => Fin.ext (by
    fin_cases a
    · show h.val + 1 * 0 = h.val; omega
    · show 0 + 1 * b.val = b.val; omega
    · show 0 + 1 * d.val = d.val; omega))

/-- The column of head `h` and query `b`, among the counts and among the slot's columns. -/
abbrev col (h b : Fin 8) : Fin 64 := ⟨8 * h.val + b.val, by omega⟩

theorem ldW_apply (h b : Fin 8) (r : Fin 1024) : ldW wb h (ix2 r b) = wb (ix2 r (col h b)) :=
  congrArg wb (funext fun a => Fin.ext (by
    fin_cases a
    · show 0 + 1 * r.val = r.val; omega
    · show 8 * h.val + 1 * b.val = 8 * h.val + b.val; omega))

variable (g : S4x66x64.Idx → Elt Ideal .f32)

theorem ldRow_apply (r : ℕ) (hr : r < 66) (p : Fin 4) (i : Fin 64) : ldRow g r hr p (ix3 0 0 i) = g (ix3 p ⟨r, hr⟩ i) :=
  congrArg g (funext fun a => Fin.ext (by
    fin_cases a
    · show p.val + 1 * 0 = p.val; omega
    · show r + 1 * 0 = r; omega
    · show 0 + 1 * i.val = i.val; omega))

theorem ldBlk_apply (p : Fin 4) (i n : Fin 64) : ldBlk g p (ix3 0 i n) = g (ix3 p ⟨i.val, by omega⟩ n) :=
  congrArg g (funext fun a => Fin.ext (by
    fin_cases a
    · show p.val + 1 * 0 = p.val; omega
    · show 0 + 1 * i.val = i.val; omega
    · show 0 + 1 * n.val = n.val; omega))

/-! ## One head -/

/-- The token of row `r`: its page and its place in the page. -/
abbrev pg (r : Fin 1024) : Fin 64 := ⟨r.val / 16, by omega⟩
abbrev tk (r : Fin 1024) : Fin 16 := ⟨r.val % 16, Nat.mod_lt _ (by decide)⟩

/-- The scaled score of row `r` against query `b`. -/
def score (h b : Fin 8) (r : Fin 1024) : EReal :=
  (∑ d : Fin 64, kb (ix4 (pg r) (tk r) h d) * qb (ix3 h b d)) * Ideal.ofBits .f32 0x3E000000#32
/-- The score where the count is positive, the mask elsewhere. -/
def masked (h b : Fin 8) (r : Fin 1024) : EReal :=
  if 0 < wb (ix2 r (col h b)) then score kb qb h b r else Ideal.ofBits .f32 0xF149F2CA#32
/-- The largest of them. -/
def top (h b : Fin 8) : EReal := Finset.fold max (Ideal.ofBits .f32 0xFF800000#32) (fun r => masked kb qb wb h b r) Finset.univ
/-- The weight of row `r`. -/
def weight (h b : Fin 8) (r : Fin 1024) : EReal :=
  wb (ix2 r (col h b)) * Ideal.exp (masked kb qb wb h b r - top kb qb wb h b)

theorem pay15_apply (h b : Fin 8) (r : Fin 1024) : k0_pay15 (ldK kb h) (ldQ qb h) (ldW wb h) (ix2 r b) = masked kb qb wb h b r := by
  unfold masked score
  simp only [← ldK_apply, ← ldQ_apply, ← ldW_apply]
  pointwise [k0_pay15, k0_pay14]

theorem pay16_apply (h b : Fin 8) : k0_pay16 (ldK kb h) (ldQ qb h) (ldW wb h) (ix1 b) = top kb qb wb h b := by
  unfold top
  simp only [← pay15_apply]
  pointwise [k0_pay16]

theorem pay17_apply (h b : Fin 8) (r : Fin 1024) : k0_pay17 (ldK kb h) (ldQ qb h) (ldW wb h) (ix2 r b) = weight kb qb wb h b r := by
  unfold weight
  rw [← pay15_apply, ← pay16_apply, ← ldW_apply wb]
  pointwise [k0_pay17, k0_pay14]

theorem payM_apply (h b : Fin 8) : payM kb qb wb h (ix3 0 0 b) = top kb qb wb h b := by
  unfold payM
  rw [← pay16_apply]
  pointwise [k0_pay20]

theorem payL_apply (h b : Fin 8) : payL kb qb wb h (ix3 0 0 b) = ∑ r : Fin 1024, weight kb qb wb h b r := by
  unfold payL
  simp only [← pay17_apply]
  pointwise [k0_pay21, k0_pay18]

theorem payO_apply (h b : Fin 8) (n : Fin 64) :
    payO kb vb qb wb h (ix3 0 b n) = ∑ r : Fin 1024, weight kb qb wb h b r * vb (ix4 (pg r) (tk r) h n) := by
  unfold payO
  simp only [← pay17_apply, ← ldV_apply]
  pointwise [k0_pay19]

/-! ## The slot -/

theorem slot_rows (h b : Fin 8) (n : Fin 64) :
    slotVal kb vb qb wb ⟨(col h b).val, by omega⟩ n = ∑ r : Fin 1024, weight kb qb wb h b r * vb (ix4 (pg r) (tk r) h n) := by
  unfold slotVal
  rw [dif_pos (show (col h b).val < 64 from (col h b).isLt), ← payO_apply]
  have e1 : (8 * h.val + b.val) / 8 = h.val := by omega
  have e2 : (8 * h.val + b.val) % 8 = b.val := by omega
  exact congrArg₂ (fun k l => payO kb vb qb wb k (ix3 0 l n)) (Fin.ext e1) (Fin.ext e2)

theorem slot_tops (h b : Fin 8) : slotVal kb vb qb wb ⟨64, by decide⟩ (col h b) = top kb qb wb h b := by
  unfold slotVal
  rw [dif_neg (by decide), if_pos rfl, ← payM_apply]
  have e1 : (8 * h.val + b.val) / 8 = h.val := by omega
  have e2 : (8 * h.val + b.val) % 8 = b.val := by omega
  exact congrArg₂ (fun k l => payM kb qb wb k (ix3 0 0 l)) (Fin.ext e1) (Fin.ext e2)

theorem slot_sums (h b : Fin 8) : slotVal kb vb qb wb ⟨65, by decide⟩ (col h b) = ∑ r : Fin 1024, weight kb qb wb h b r := by
  unfold slotVal
  rw [dif_neg (by decide), if_neg (by decide), ← payL_apply]
  have e1 : (8 * h.val + b.val) / 8 = h.val := by omega
  have e2 : (8 * h.val + b.val) % 8 = b.val := by omega
  exact congrArg₂ (fun k l => payL kb qb wb k (ix3 0 0 l)) (Fin.ext e1) (Fin.ext e2)

/-! ## The combination -/

/-- The combination of four parts: maxima, sums and weighted values. -/
def merge (M L O : Fin 4 → EReal) : EReal :=
  have top := max (max (M 0) (M 1)) (max (M 2) (M 3))
  Ideal.div (O 0 * Ideal.exp (M 0 - top) + O 1 * Ideal.exp (M 1 - top) + O 2 * Ideal.exp (M 2 - top) + O 3 * Ideal.exp (M 3 - top))
    (Ideal.exp (M 0 - top) * L 0 + Ideal.exp (M 1 - top) * L 1 + Ideal.exp (M 2 - top) * L 2 + Ideal.exp (M 3 - top) * L 3)

theorem combine_apply (i n : Fin 64) : combine g (ix2 i n)
    = merge (fun p => g (ix3 p ⟨64, by decide⟩ i)) (fun p => g (ix3 p ⟨65, by decide⟩ i)) (fun p => g (ix3 p ⟨i.val, by omega⟩ n)) := by
  pointwise [combine, k0_pay73, k0_pay74, k0_pay75, k0_pay76, k0_pay77, k0_pay78, k0_pay79, k0_pay80, k0_pay81, k0_pay82, k0_pay83, k0_pay84]
  simp only [ldRow_apply, ldBlk_apply]
  rfl

end Cert.KernelIdeal.Paged

end
-- ==== Proof.Host.lean ====
/-
  What a device's host code leaves for the call: the queries head by head, and how often each page of the device's
  part of the pool is named by the live part of each sequence's table.
-/
module

public import proofs.«01_k».proof.Proof.Payload
public import proofs.«01_k».proof.Proof.Region
public import Idealize.ShloMosaic.Lib.IndicatorCount
public import Idealize.ShloMosaic.Lib.ReduceAll
public import Idealize.ShloMosaic.Lib.StableHlo.Predicate

@[expose] public section

noncomputable section

namespace Cert.KernelIdeal.Paged

open Idealize.ShloMosaic Idealize.ShloMosaic.TcCoe Idealize.ShloMosaic.StableHlo Cert.KernelIdeal Cert.KernelIdeal.Gen

variable {F : FTy → Type} [FloatOps F]

/-- The numbers of the pages that a device holds. -/
def pageIds (c : Dev nD) : IVec S64 32 :=
  addi (broadcastInDim S64 ![] bcast_S_S64 (muli (Host.remui (Host.divui (constantI S_ 32 (Dev.word c)) (constantI S_ 32 1#32)) (constantI S_ 32 4#32)) (constantI S_ 32 64#32)))
    (iotaInDim S64 32 0)

/-- Which entries of the tables are live. -/
def liveAt (lens : IVec S8 32) : IVec S8x64 1 :=
  cmpi .slt (broadcastInDim S8x64 ![0, 1] bcast_S1x64_S8x64_0_1 (broadcastInDim S1x64 ![1] bcast_S64_S1x64_1 (iotaInDim S64 32 0)))
    (broadcastInDim S8x64 ![0, 1] bcast_S8x1_S8x64_0_1 (broadcastInDim S8x1 ![0] bcast_S8_S8x1_0 lens))

/-- Which live entries name which of the pages. -/
def hits (c : Dev nD) (bt : IVec S8x64 32) (lens : IVec S8 32) : IVec S8x64x64 1 :=
  andi (cmpi .eq (broadcastInDim S8x64x64 ![0, 1, 2] bcast_S8x64x1_S8x64x64_0_1_2 (broadcastInDim S8x64x1 ![0, 1] bcast_S8x64_S8x64x1_0_1 bt))
      (broadcastInDim S8x64x64 ![0, 1, 2] bcast_S1x1x64_S8x64x64_0_1_2 (broadcastInDim S1x1x64 ![2] bcast_S64_S1x1x64_2 (pageIds c))))
    (broadcastInDim S8x64x64 ![0, 1, 2] bcast_S8x64x1_S8x64x64_0_1_2 (broadcastInDim S8x64x1 ![0, 1] bcast_S8x64_S8x64x1_0_1 (liveAt lens)))

/-- How many do. -/
def counts (c : Dev nD) (bt : IVec S8x64 32) (lens : IVec S8 32) : IVec S8x64 32 :=
  Host.reduce IntOp.addi (extui 32 (hits c bt lens) natLt_1_32) (constantI S_ 32 0#32) reducesTo_S8x64x64_S8x64_d1 h_S_

/-- The counts, spread over the tokens of a page and over the heads. -/
def spread (n : FVec F S8x64 .f32) : FVec F S1024x64 .f32 :=
  shapeCast S1024x64 (broadcastInDim S1x1024x8x8 ![0, 1, 2, 3] bcast_S1x1024x1x8_S1x1024x8x8_0_1_2_3
    (shapeCast S1x1024x1x8 (transpose S1024x8 [1, 0] (shapeCast S8x1024 (broadcastInDim S8x64x16 ![0, 1] bcast_S8x64_S8x64x16_0_1 n) shapeCasts_S8x64x16_S8x1024)
      transposes_S8x1024_S1024x8_1_0) shapeCasts_S1024x8_S1x1024x1x8)) shapeCasts_S1x1024x8x8_S1024x64

variable (m : (ℓ : Loc nD τ sig) → Buf (Elt F) ℓ) (c : Dev nD)

theorem host_w : V1 m c main_v31 = spread (F := F) (sitofp .f32 (counts c (m ((c : Thread nD τ).loc main_arg3)) (m ((c : Thread nD τ).loc main_arg4)))) := by
  show after (hostOps0 c) (V0 m c) main_v31 = _
  simp only [hostOps0]
  after_results_simp <;> rfl

theorem host_q : V1 m c main_v33
    = transpose S8x8x64 [1, 0, 2] (shapeCast S8x8x64 (m ((c : Thread nD τ).loc main_arg0)) shapeCasts_S8x1x8x64_S8x8x64) transposes_S8x8x64_S8x8x64_1_0_2 := by
  show after (hostOps0 c) (V0 m c) main_v33 = _
  simp only [hostOps0]
  after_results_simp <;> rfl

theorem spread_apply (n : FVec F S8x64 .f32) (h b : Fin 8) (r : Fin 1024) : spread n (ix2 r (col h b)) = n (ix2 b (pg r)) := by
  have hb : (⟨(8 * h.val + b.val) % 8, Nat.mod_lt _ (by decide)⟩ : Fin 8) = b := Fin.ext (by simp only; omega)
  pointwise [spread]
  exact congrArg (fun x => n (ix2 x (pg r))) hb

theorem q_apply (q : S8x1x8x64.Idx → Elt F .bf16) (h b : Fin 8) (d : Fin 64) :
    transpose S8x8x64 [1, 0, 2] (shapeCast S8x8x64 q shapeCasts_S8x1x8x64_S8x8x64) transposes_S8x8x64_S8x8x64_1_0_2 (ix3 h b d) = q (ix4 b 0 h d) := by
  pointwise

/-- The page that is `p`th on a device, by its number in the pool. -/
theorem page_word (c : Dev nD) (p : Fin 64) :
    IntOp.addi (IntOp.muli (IntOp.remui .host (IntOp.divui .host (Dev.word c) 1#32) 4#32) 64#32) (BitVec.ofNat 32 p.val)
      = BitVec.ofNat 32 (64 * (c.val % 4) + p.val) := by
  have hz : IntOp.muli (IntOp.remui .host (IntOp.divui .host (Dev.word c) 1#32) 4#32) 64#32 = BitVec.ofNat 32 (64 * (c.val % 4)) := by
    revert c; decide
  rw [hz]; exact (BitVec.ofNat_add _ _).symm

/-- An entry of a sequence's table is live. -/
def Live (lens : IVec S8 32) (b : Fin 8) (j : Fin 64) : Prop := IntOp.cmpi .slt (BitVec.ofNat 32 j.val) (lens (ix1 b)) = 1#1

instance (lens : IVec S8 32) (b : Fin 8) (j : Fin 64) : Decidable (Live lens b j) := inferInstanceAs (Decidable (_ = _))

/-- How many live entries of a sequence's table name a page of the pool. -/
def named (bt : IVec S8x64 32) (lens : IVec S8 32) (b : Fin 8) (q : ℕ) : ℕ :=
  (Finset.univ.filter fun j : Fin 64 => bt (ix2 b j) = BitVec.ofNat 32 q ∧ Live lens b j).card

theorem counts_apply (bt : IVec S8x64 32) (lens : IVec S8 32) (b : Fin 8) (p : Fin 64) :
    counts c bt lens (ix2 b p) = BitVec.ofNat 32 (named bt lens b (64 * (c.val % 4) + p.val)) := by
  pointwise [counts, hits, pageIds, liveAt]
  rw [page_word, IndicatorCount.fold_addi_setWidth_eq_card]
  refine congrArg (fun s : Finset (Fin 64) => BitVec.ofNat 32 s.card) (Finset.filter_congr fun j _ => ?_)
  rw [IntOp.andi_eq_one, Predicate.cmpi_eq_iff]
  rfl

theorem named_le (bt : IVec S8x64 32) (lens : IVec S8 32) (b : Fin 8) (q : ℕ) : named bt lens b q ≤ 64 :=
  (Finset.card_filter_le _ _).trans (le_of_eq (by simp))

end Cert.KernelIdeal.Paged

namespace Cert.KernelIdeal.Paged

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- How heavily a device weights a page: how often the live entries name it. -/
theorem wIn_apply (h b : Fin 8) (r : Fin 1024) : wIn m c (ix2 r (col h b))
    = ((named (m ((c : Thread nD τ).loc main_arg3)) (m ((c : Thread nD τ).loc main_arg4)) b (64 * (c.val % 4) + (pg r).val) : ℝ) : EReal) := by
  show mid m c main_v31 _ = _
  rw [mid_eq, host_w, spread_apply]
  show (((counts c _ _ (ix2 b (pg r))).toInt : ℝ) : EReal) = _
  rw [counts_apply, Predicate.toInt_ofNat_small _ (lt_of_le_of_lt (named_le _ _ _ _) (by decide))]
  simp

theorem qIn_apply (h b : Fin 8) (d : Fin 64) : qIn m c (ix3 h b d) = m ((c : Thread nD τ).loc main_arg0) (ix4 b 0 h d) := by
  show mid m c main_v33 _ = _
  rw [mid_eq, host_q]
  exact q_apply _ h b d

theorem kIn_eq : kIn m c = m ((c : Thread nD τ).loc main_arg1) := by
  show mid m c main_arg1 = _
  rw [mid_eq, V1_of m c main_arg1 (by decide)]

theorem vIn_eq : vIn m c = m ((c : Thread nD τ).loc main_arg2) := by
  show mid m c main_arg2 = _
  rw [mid_eq, V1_of m c main_arg2 (by decide)]

end Cert.KernelIdeal.Paged

end
-- ==== Proof.Pre.lean ====
/-
  What the precondition says of one device's arguments, entry by entry.
-/
module

public import proofs.«01_k».proof.Proof.Gen.Pre_addressed_KernelIdeal
public import proofs.«01_k».proof.Proof.Host
public import Idealize.ShloMosaic.Lib.ReduceAll

@[expose] public section

noncomputable section

namespace Cert.Pre_addressed_KernelIdeal

open Idealize.ShloMosaic Cert.KernelIdeal.Paged

instance : Facts := Gen.facts

/-- An extended real below `⊤` in size is real. -/
theorem real_of_small (x : EReal) (h : Ideal.cmp .olt (max x (-x)) (Ideal.ofBits .bf16 0x7F80#16) = 1#1) : ∃ y : ℝ, x = (y : EReal) := by
  have ht : Ideal.ofBits .bf16 0x7F80#16 = (⊤ : EReal) := by simp [Ideal.ofBits, Ideal.ieee]
  rw [ht] at h
  have hlt : max x (-x) < ⊤ := by
    by_contra hn
    have : Ideal.cmp .olt (max x (-x)) ⊤ = 0#1 := by
      show BitVec.ofBool (decide _) = _
      rw [decide_eq_false hn]; rfl
    rw [this] at h
    exact absurd h (by decide)
  obtain ⟨h1, h2⟩ := max_lt_iff.1 hlt
  have h3 : x ≠ ⊥ := fun e => by rw [e] at h2; simp at h2
  exact ⟨x.toReal, (EReal.coe_toReal h1.ne h3).symm⟩

theorem reads (Q : FVec Ideal S8x1x8x64 .bf16) (K V : FVec Ideal S64x16x8x64 .bf16) (bt : IVec S8x64 32) (lens : IVec S8 32)
    (h : fn (F := Ideal) Q K V bt lens ix0 = 1#1) :
    (∀ b, 1 ≤ (lens (ix1 b)).toInt) ∧ (∀ b j, Live lens b j → (bt (ix2 b j)).toNat < 256)
      ∧ (∀ i, ∃ y : ℝ, Q i = (y : EReal)) ∧ ∀ i, ∃ y : ℝ, K i = (y : EReal) := by
  unfold fn fn_part1 at h
  obtain ⟨h12, h34⟩ := IntOp.andi_eq_one.1 h
  obtain ⟨h1, h2⟩ := IntOp.andi_eq_one.1 h12
  obtain ⟨h3, h4⟩ := IntOp.andi_eq_one.1 h34
  have : Subsingleton S_.Idx := ⟨fun a b => funext fun i => i.elim0⟩
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  refine ⟨fun b => IntOp.cmpi_sge.1 (h1 (ix1 b)), fun b j hl => ?_, fun i => real_of_small _ (h3 i), fun i => real_of_small _ (h4 i)⟩
  have h5 := h2 (ix2 b j)
  unfold fn_where at h5
  revert h5
  pointwise
  intro h5
  rw [show IntOp.cmpi .slt (BitVec.ofNat 32 j.val) (lens (ix1 b)) = 1#1 from hl] at h5
  obtain ⟨h6, h7⟩ := IntOp.andi_eq_one.1 h5
  have h8 : (0#32 : BitVec 32).toInt ≤ _ := IntOp.cmpi_sge.1 h6
  have h9 : _ < (256#32 : BitVec 32).toInt := IntOp.cmpi_slt.1 h7
  have e0 : (0#32 : BitVec 32).toInt = 0 := by decide
  have e1 : (256#32 : BitVec 32).toInt = 256 := by decide
  rw [e0] at h8
  rw [e1] at h9
  rw [BitVec.toInt_eq_toNat_cond] at h8 h9
  have := (bt (ix2 b j)).isLt
  split at h8 <;> omega

end Cert.Pre_addressed_KernelIdeal

end
-- ==== Proof.RefVal.lean ====
/-
  What the reference's text computes, entry by entry: a softmax over a sequence's 1024 gathered tokens, then the
  weighted sum of the gathered values.
-/
module

public import proofs.«01_k».proof.Proof.Gen.ReferenceIdeal.Run
public import Idealize.ShloMosaic.Lib.Pointwise

@[expose] public section

noncomputable section

namespace Cert.ReferenceIdeal.Paged

open Idealize.ShloMosaic Idealize.ShloMosaic.TcCoe Idealize.ShloMosaic.StableHlo Cert.ReferenceIdeal Cert.ReferenceIdeal.Gen Cert.ReferenceIdeal.Value

/-- The table's entries as page numbers: a negative one counts from the end of the pool. -/
def wrapped (bt : IVec S8x64 32) : IVec S8x64 32 :=
  select (cmpi .slt bt (broadcastInDim S8x64 ![] bcast_S_S8x64 (constantI S_ 32 0#32)))
    (addi bt (broadcastInDim S8x64 ![] bcast_S_S8x64 (constantI S_ 32 256#32))) bt

theorem wrapped_apply (bt : IVec S8x64 32) (b : Fin 8) (j : Fin 64) (h : (bt (ix2 b j)).toNat < 256) : wrapped bt (ix2 b j) = bt (ix2 b j) := by
  have h0 : IntOp.cmpi .slt (bt (ix2 b j)) 0#32 = 0#1 := by
    generalize bt (ix2 b j) = w at h ⊢
    simp only [IntOp.cmpi]
    have : w.slt 0#32 = false := by
      rw [BitVec.slt, decide_eq_false_iff_not, BitVec.toInt_eq_toNat_of_lt (by omega)]
      simp
    rw [this]; rfl
  pointwise [wrapped]
  rw [h0]; rfl

/-- The pages that a table names, one after the other. -/
def gathered (x : FVec Ideal S256x16x8x64 .f32) (bt : IVec S8x64 32) : FVec Ideal S8x64x16x8x64 .f32 :=
  Host.gather gather_S256x16x8x64_S8x64x1_S8x64x16x8x64_234_0_n_n_0_2_116864 x (broadcastInDim S8x64x1 ![0, 1] bcast_S8x64_S8x64x1_0_1 (wrapped bt))

theorem gathered_apply (x : FVec Ideal S256x16x8x64 .f32) (bt : IVec S8x64 32) (b : Fin 8) (j : Fin 64) (t : Fin 16) (h : Fin 8) (d : Fin 64)
    (hp : (bt (ix2 b j)).toNat < 256) :
    gathered x bt (ix5 b j t h d) = x (ix4 ⟨(bt (ix2 b j)).toNat, hp⟩ t h d) := by
  have hi : broadcastInDim S8x64x1 ![0, 1] bcast_S8x64_S8x64x1_0_1 (wrapped bt) (ix3 b j 0) = bt (ix2 b j) := by
    rw [← wrapped_apply bt b j hp]
    generalize wrapped bt = y
    pointwise
  unfold gathered
  generalize broadcastInDim S8x64x1 ![0, 1] bcast_S8x64_S8x64x1_0_1 (wrapped bt) = idx at hi ⊢
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  unfold GatherDims.start GatherDims.offCoord
  match a with
  | ⟨0, _⟩ =>
    rw [dif_pos (by decide +revert), dif_neg (by decide +revert), Nat.add_zero]
    refine Eq.trans (congrArg (fun i => min (idx i).toInt.toNat 255) (?_ : _ = ix3 b j 0)) ?_
    · funext k; match k with | ⟨0, _⟩ => rfl | ⟨1, _⟩ => rfl | ⟨2, _⟩ => rfl
    · show min (idx (ix3 b j 0)).toInt.toNat 255 = (bt (ix2 b j)).toNat
      rw [hi, BitVec.toInt_eq_toNat_of_lt (by omega)]; omega
  | ⟨1, _⟩ => rw [dif_neg (by decide +revert), dif_pos (by decide +revert), Nat.zero_add]; rfl
  | ⟨2, _⟩ => rw [dif_neg (by decide +revert), dif_pos (by decide +revert), Nat.zero_add]; rfl
  | ⟨3, _⟩ => rw [dif_neg (by decide +revert), dif_pos (by decide +revert), Nat.zero_add]; rfl

/-- Which tokens are live. -/
def keep (lens : IVec S8 32) : IVec S8x8x1x1024 1 :=
  broadcastInDim S8x8x1x1024 ![0, 1, 2, 3] bcast_S8x1x1x1024_S8x8x1x1024_0_1_2_3 (broadcastInDim S8x1x1x1024 ![0, 3] bcast_S8x1024_S8x1x1x1024_0_3
    (shapeCast S8x1024 (broadcastInDim S8x64x16 ![0, 1] bcast_S8x64_S8x64x16_0_1
      (cmpi .slt (broadcastInDim S8x64 ![0, 1] bcast_S1x64_S8x64_0_1 (broadcastInDim S1x64 ![1] bcast_S64_S1x64_1 (iotaInDim S64 32 0)))
        (broadcastInDim S8x64 ![0, 1] bcast_S8x1_S8x64_0_1 (broadcastInDim S8x1 ![0] bcast_S8_S8x1_0 lens)))) shapeCasts_S8x64x16_S8x1024))

/-- The scores, the dead tokens' cut. -/
def scores (q : FVec Ideal S8x1x8x64 .f32) (kg : FVec Ideal S8x64x16x8x64 .f32) (lens : IVec S8 32) : FVec Ideal S8x8x1x1024 .f32 :=
  select (keep lens)
    (mulf (Host.dotGeneral dot_S8x1x8x64_S8x1024x8x64_S8x8x1x1024_3_3_1_1_02_02 none q (shapeCast S8x1024x8x64 kg shapeCasts_S8x64x16x8x64_S8x1024x8x64))
      (broadcastInDim S8x8x1x1024 ![] bcast_S_S8x8x1x1024 (constant S_ .f32 0x3E000000#32)))
    (broadcastInDim S8x8x1x1024 ![] bcast_S_S8x8x1x1024 (id (constant S_ .f32 0xFF800000#32)))

/-- Their exponentials, against the greatest of the row. -/
def risen (s : FVec Ideal S8x8x1x1024 .f32) : FVec Ideal S8x8x1x1024 .f32 :=
  Host.exp (subf s (broadcastInDim S8x8x1x1024 ![0, 1, 2, 3] bcast_S8x8x1x1_S8x8x1x1024_0_1_2_3
    (broadcastInDim S8x8x1x1 ![0, 1, 2] bcast_S8x8x1_S8x8x1x1_0_1_2
      (Host.reduce FloatOps.maximumf s (constant S_ .f32 0xFF800000#32) reducesTo_S8x8x1x1024_S8x8x1_d3 h_S_))))

/-- The softmax of the scores. -/
def probs (s : FVec Ideal S8x8x1x1024 .f32) : FVec Ideal S8x8x1x1024 .f32 :=
  Host.divf (risen s) (broadcastInDim S8x8x1x1024 ![0, 1, 2, 3] bcast_S8x8x1x1_S8x8x1x1024_0_1_2_3
    (broadcastInDim S8x8x1x1 ![0, 1, 2] bcast_S8x8x1_S8x8x1x1_0_1_2
      (Host.reduceAdd (risen s) (constant S_ .f32 0x00000000#32) reducesTo_S8x8x1x1024_S8x8x1_d3 h_S_)))

/-- The result. -/
def mixed (p : FVec Ideal S8x8x1x1024 .f32) (vg : FVec Ideal S8x64x16x8x64 .f32) : FVec Ideal S8x1x8x64 .f32 :=
  transpose S8x1x8x64 [0, 3, 1, 2] (Host.dotGeneral dot_S8x1024x8x64_S8x8x1x1024_S8x8x64x1_1_3_3_2_02_01 none
    (shapeCast S8x1024x8x64 vg shapeCasts_S8x64x16x8x64_S8x1024x8x64) p) transposes_S8x8x64x1_S8x1x8x64_0_3_1_2

variable (m : (ℓ : Loc nD τ sig) → Buf (Elt Ideal) ℓ) (c : Dev nD)

theorem res_eq : res_main_v42 m c = mixed (probs (scores (m (c.tc.loc main_arg0)) (gathered (m (c.tc.loc main_arg1)) (m (c.tc.loc main_arg3))) (m (c.tc.loc main_arg4))))
    (gathered (m (c.tc.loc main_arg2)) (m (c.tc.loc main_arg3))) := rfl

theorem mixed_apply (p : FVec Ideal S8x8x1x1024 .f32) (vg : FVec Ideal S8x64x16x8x64 .f32) (b h : Fin 8) (n : Fin 64) :
    mixed p vg (ix4 b 0 h n) = ∑ r : Fin 1024, vg (ix5 b (Fin.divNat (n := 16) (m := 64) r) (Fin.modNat (n := 16) (m := 64) r) h n) * p (ix4 b h 0 r) := by
  pointwise [mixed]
  rfl

theorem risen_apply (s : FVec Ideal S8x8x1x1024 .f32) (b h : Fin 8) (r : Fin 1024) :
    risen s (ix4 b h 0 r) = Ideal.exp (s (ix4 b h 0 r) - Finset.univ.fold max (Ideal.ofBits .f32 0xFF800000#32) fun k : Fin 1024 => s (ix4 b h 0 k)) := by
  pointwise [risen]

theorem probs_apply (s : FVec Ideal S8x8x1x1024 .f32) (b h : Fin 8) (r : Fin 1024) :
    probs s (ix4 b h 0 r) = Ideal.div (risen s (ix4 b h 0 r)) (∑ k : Fin 1024, risen s (ix4 b h 0 k)) := by
  pointwise [probs]

theorem scores_apply (q : FVec Ideal S8x1x8x64 .f32) (kg : FVec Ideal S8x64x16x8x64 .f32) (lens : IVec S8 32) (b h : Fin 8) (r : Fin 1024) :
    scores q kg lens (ix4 b h 0 r) = Scalar.select (IntOp.cmpi .slt (BitVec.ofNat 32 (Fin.divNat (n := 16) (m := 64) r).val) (lens (ix1 b)))
      ((∑ d : Fin 64, q (ix4 b 0 h d) * kg (ix5 b (Fin.divNat (n := 16) (m := 64) r) (Fin.modNat (n := 16) (m := 64) r) h d)) * Ideal.ofBits .f32 0x3E000000#32) (Ideal.ofBits .f32 0xFF800000#32) := by
  pointwise [scores, keep]
  rfl

end Cert.ReferenceIdeal.Paged

end
-- ==== Proof.Softmax.lean ====
/-
  The arithmetic behind splitting a softmax among several devices: each device weighs its own part of the pool
  against its own greatest score, and the parts are put on one scale and divided once. Over extended reals, where
  the weights are reals that are not negative and the values are anything.
-/
module

public import Idealize.ShloMosaic.Lib.Pointwise
public import proofs.«01_k».proof.Proof.Payload

@[expose] public section

noncomputable section

namespace Cert.Softmax

open Idealize.ShloMosaic

variable {ι : Type}

/-- A real that is not negative multiplies a weighted sum term by term. -/
theorem scale_sum (s : Finset ι) (a : ι → ℝ) (v : ι → EReal) {x : ℝ} (hx : 0 ≤ x) :
    (∑ i ∈ s, (a i : EReal) * v i) * (x : EReal) = ∑ i ∈ s, ((a i * x : ℝ) : EReal) * v i := by
  classical
  induction s using Finset.induction_on with
  | empty => simp
  | insert i s hi ih =>
    rw [Finset.sum_insert hi, Finset.sum_insert hi, ← ih, mul_comm, EReal.left_distrib_of_nonneg_of_ne_top (by exact_mod_cast hx) (EReal.coe_ne_top x),
      mul_comm (x : EReal) (∑ i ∈ s, _), ← mul_assoc, mul_comm (x : EReal), EReal.coe_mul]

theorem coe_sum (s : Finset ι) (a : ι → ℝ) : ∑ i ∈ s, (a i : EReal) = ((∑ i ∈ s, a i : ℝ) : EReal) := by
  classical
  induction s using Finset.induction_on with
  | empty => simp
  | insert i s hi ih => rw [Finset.sum_insert hi, Finset.sum_insert hi, ih, EReal.coe_add]

theorem exp_coe (x : ℝ) : Ideal.exp (x : EReal) = ((Real.exp x : ℝ) : EReal) := rfl

theorem exp_bot : Ideal.exp ⊥ = 0 := rfl

theorem div_coe (a : EReal) {x : ℝ} (hx : x ≠ 0) : Ideal.div a (x : EReal) = a * ((x⁻¹ : ℝ) : EReal) := by
  unfold Ideal.div
  rw [if_neg (by exact_mod_cast hx)]; rfl

theorem bot_bits : Ideal.ofBits .f32 0xFF800000#32 = (⊥ : EReal) := by
  simp [Ideal.ofBits, Ideal.ieee]

theorem mask_bits : ∃ x : ℝ, Ideal.ofBits .f32 0xF149F2CA#32 = (x : EReal) := by
  simp [Ideal.ofBits, Ideal.ieee, -EReal.coe_mul, -EReal.coe_neg]

theorem eighth_bits : Ideal.ofBits .f32 0x3E000000#32 = ((1/8 : ℝ) : EReal) := by
  simp [Ideal.ofBits, Ideal.ieee, -EReal.coe_mul]; norm_num

/-- The greatest of entries below the top, one of them real, is real. -/
theorem top_real [Fintype ι] (f : ι → EReal) (hf : ∀ i, f i ≠ ⊤) {k : ι} {y : ℝ} (hk : f k = (y : EReal)) :
    ∃ x : ℝ, Finset.univ.fold max ⊥ f = (x : EReal) := by
  have h1 : Finset.univ.fold max ⊥ f ≠ ⊤ := ne_of_lt ((Finset.fold_max_lt _).2 ⟨bot_lt_top, fun i _ => lt_top_iff_ne_top.2 (hf i)⟩)
  have h2 : Finset.univ.fold max ⊥ f ≠ ⊥ := fun h => by
    have : (y : EReal) ≤ Finset.univ.fold max ⊥ f := (Finset.le_fold_max _).2 (Or.inr ⟨k, Finset.mem_univ _, hk.ge⟩)
    rw [h] at this
    exact EReal.coe_ne_bot y (le_bot_iff.1 this)
  exact ⟨_, (EReal.coe_toReal h1 h2).symm⟩

/-- The plain softmax: dead tokens weigh nothing. -/
theorem plain [Fintype ι] (live : ι → Prop) [DecidablePred live] (s : ι → ℝ) (v : ι → EReal) {k : ι} (hk : live k) (f : ι → EReal)
    (hf : ∀ i, f i = if live i then (s i : EReal) else ⊥) :
    ∑ i, v i * Ideal.div (Ideal.exp (f i - Finset.univ.fold max ⊥ f)) (∑ i, Ideal.exp (f i - Finset.univ.fold max ⊥ f))
      = ∑ i, (((if live i then Real.exp (s i) else 0) / ∑ i, (if live i then Real.exp (s i) else 0) : ℝ) : EReal) * v i := by
  obtain ⟨x, hx⟩ := top_real f (fun i => by rw [hf]; split <;> simp) (k := k) (y := s k) (by rw [hf, if_pos hk])
  have he : ∀ i, Ideal.exp (f i - Finset.univ.fold max ⊥ f) = (((if live i then Real.exp (s i) else 0) * Real.exp (-x) : ℝ) : EReal) := by
    intro i
    rw [hx, hf]
    split
    · rw [← EReal.coe_sub, exp_coe, ← Real.exp_add, sub_eq_add_neg]
    · rw [EReal.bot_sub, exp_bot]; simp
  have hZ : 0 < ∑ i, (if live i then Real.exp (s i) else 0) :=
    Finset.sum_pos' (fun i _ => by split <;> positivity) ⟨k, Finset.mem_univ _, by rw [if_pos hk]; positivity⟩
  have hX : (0 : ℝ) < Real.exp (-x) := Real.exp_pos _
  simp only [he, coe_sum, ← Finset.sum_mul]
  refine Finset.sum_congr rfl fun i _ => ?_
  rw [div_coe _ (by positivity), ← EReal.coe_mul, mul_comm]
  congr 2
  field_simp

/-- One device's part: what it keeps of its weighted values, of its weights, and its greatest score. -/
theorem part [Fintype ι] [Nonempty ι] (N : ι → ℕ) (s : ι → ℝ) (mask : ℝ) (f : ι → EReal) (hf : ∀ i, f i = if 0 < ((N i : ℝ) : EReal) then (s i : EReal) else (mask : EReal)) :
    ∃ x : ℝ, Finset.univ.fold max ⊥ f = (x : EReal) ∧ ∀ i, ((N i : ℝ) : EReal) * Ideal.exp (f i - Finset.univ.fold max ⊥ f) = ((N i * Real.exp (s i) * Real.exp (-x) : ℝ) : EReal) := by
  have hr : ∀ i, ∃ y : ℝ, f i = (y : EReal) := fun i => by rw [hf]; split <;> exact ⟨_, rfl⟩
  obtain ⟨y, hy⟩ := hr (Classical.arbitrary ι)
  obtain ⟨x, hx⟩ := top_real f (fun i => by obtain ⟨y, hy⟩ := hr i; rw [hy]; exact EReal.coe_ne_top y) hy
  refine ⟨x, hx, fun i => ?_⟩
  rw [hx, hf]
  rcases Nat.eq_zero_or_pos (N i) with h | h
  · rw [h]; simp
  · rw [if_pos (by exact_mod_cast h), ← EReal.coe_sub, exp_coe, ← EReal.coe_mul, mul_assoc, ← Real.exp_add, sub_eq_add_neg]

/-- The parts on one scale, divided once. -/
theorem whole [Fintype ι] (M L O : Fin 4 → EReal) (x : Fin 4 → ℝ) (w : Fin 4 → ι → ℝ) (v : Fin 4 → ι → EReal)
    (hM : ∀ p, M p = (x p : EReal)) (hL : ∀ p, L p = ∑ i, ((w p i * Real.exp (-x p) : ℝ) : EReal)) (hO : ∀ p, O p = ∑ i, ((w p i * Real.exp (-x p) : ℝ) : EReal) * v p i)
    (hZ : 0 < ∑ p, ∑ i, w p i) :
    Cert.KernelIdeal.Paged.merge M L O = ∑ p, ∑ i, ((w p i / ∑ p, ∑ i, w p i : ℝ) : EReal) * v p i := by
  obtain ⟨X, hX⟩ : ∃ X : ℝ, max (max (M 0) (M 1)) (max (M 2) (M 3)) = (X : EReal) :=
    ⟨max (max (x 0) (x 1)) (max (x 2) (x 3)), by simp only [hM]; push_cast; rfl⟩
  have hO' : ∀ p, O p * Ideal.exp (M p - X) = ∑ i, ((w p i * Real.exp (-X) : ℝ) : EReal) * v p i := by
    intro p
    rw [hO, hM, ← EReal.coe_sub, exp_coe, scale_sum _ _ _ (Real.exp_pos _).le]
    refine Finset.sum_congr rfl fun i _ => ?_
    rw [mul_assoc, ← Real.exp_add]; congr 4; ring
  have hL' : ∀ p, Ideal.exp (M p - X) * L p = (((∑ i, w p i) * Real.exp (-X) : ℝ) : EReal) := by
    intro p
    rw [hL, hM, ← EReal.coe_sub, exp_coe, coe_sum, ← EReal.coe_mul, ← Finset.sum_mul, mul_comm, mul_assoc, ← Real.exp_add]; congr 3; ring
  unfold Cert.KernelIdeal.Paged.merge
  simp only [hX, hO', hL']
  simp only [← EReal.coe_add, ← add_mul, ← Fin.sum_univ_four (fun p => ∑ i, w p i)]
  rw [← Fin.sum_univ_four (fun p => ∑ i, ((w p i * Real.exp (-X) : ℝ) : EReal) * v p i), div_coe _ (by positivity)]
  rw [← Finset.sum_product', scale_sum (ι := Fin 4 × ι) _ (fun q => w q.1 q.2 * Real.exp (-X)) (fun q => v q.1 q.2) (by positivity), Finset.univ_product_univ, Fintype.sum_prod_type]
  refine Finset.sum_congr rfl fun p _ => Finset.sum_congr rfl fun i _ => ?_
  congr 2
  have := Real.exp_pos (-X)
  field_simp

end Cert.Softmax

end
-- ==== Proof.Tally.lean ====
/-
  Summing over a pool's pages, each as often as a table names it, is summing over the table.
-/
module

public import Idealize.ShloMosaic.Lib.Pointwise

@[expose] public section

namespace Cert.Tally

/-- The page that is `q`th on the device at place `p`. -/
def page (p : Fin 4) (q : Fin 64) : Fin 256 := finProdFinEquiv (p, q)

theorem page_val (p : Fin 4) (q : Fin 64) : (page p q).val = 64 * p.val + q.val := by
  show q.val + 64 * p.val = _
  omega

theorem page_surj (Q : Fin 256) : ∃ p q, page p q = Q :=
  ⟨((finProdFinEquiv (m := 4) (n := 64)).symm Q).1, ((finProdFinEquiv (m := 4) (n := 64)).symm Q).2, (finProdFinEquiv (m := 4) (n := 64)).apply_symm_apply Q⟩

variable {M : Type} [AddCommMonoid M]

/-- A sum over a table's tokens, entry by entry. -/
theorem sum_tokens (f : Fin 64 → Fin 16 → M) :
    ∑ r : Fin 1024, f (Fin.divNat (n := 16) (m := 64) r) (Fin.modNat (n := 16) (m := 64) r) = ∑ j, ∑ t, f j t := by
  rw [← Fintype.sum_prod_type' f]
  exact (finProdFinEquiv (m := 64) (n := 16)).symm.sum_comp fun x => f x.1 x.2

theorem sum_pages (f : Fin 256 → M) : ∑ p, ∑ q, f (page p q) = ∑ Q, f Q := by
  rw [← Fintype.sum_prod_type' fun p q => f (page p q)]
  exact (finProdFinEquiv (m := 4) (n := 64)).sum_comp f

theorem tally (live : Fin 64 → Prop) [DecidablePred live] (at' : Fin 64 → Fin 256) (G : Fin 256 → Fin 16 → M) :
    ∑ p, ∑ r : Fin 1024, (Finset.univ.filter fun j => at' j = page p (Fin.divNat (n := 16) (m := 64) r) ∧ live j).card
        • G (page p (Fin.divNat (n := 16) (m := 64) r)) (Fin.modNat (n := 16) (m := 64) r)
      = ∑ r : Fin 1024, if live (Fin.divNat (n := 16) (m := 64) r) then G (at' (Fin.divNat (n := 16) (m := 64) r)) (Fin.modNat (n := 16) (m := 64) r) else 0 := by
  have h1 : ∀ Q, (∑ t, (Finset.univ.filter fun j => at' j = Q ∧ live j).card • G Q t) = ∑ j, if at' j = Q ∧ live j then ∑ t, G Q t else 0 := fun Q => by
    rw [← Finset.sum_filter, Finset.sum_const, Finset.smul_sum]
  rw [sum_tokens fun j t => if live j then G (at' j) t else 0]
  rw [Finset.sum_congr rfl fun p _ => sum_tokens fun q t => (Finset.univ.filter fun j => at' j = page p q ∧ live j).card • G (page p q) t]
  simp only [h1]
  rw [sum_pages fun Q => ∑ j, if at' j = Q ∧ live j then ∑ t, G Q t else 0, Finset.sum_comm]
  refine Finset.sum_congr rfl fun j _ => ?_
  by_cases hl : live j
  · simp only [hl, and_true, if_true]
    exact Finset.sum_ite_eq _ _ _ |>.trans (if_pos (Finset.mem_univ _))
  · simp [hl]

end Cert.Tally
-- ==== Proof.Value.lean ====
/-
  The kernel's result is the reference's: both are the sum, over the live entries of a sequence's table and the
  tokens of a page, of the softmax weights times the values.
-/
module

public import proofs.«01_k».proof.Proof.Pre
public import proofs.«01_k».proof.Proof.RefVal
public import proofs.«01_k».proof.Proof.Softmax
public import proofs.«01_k».proof.Proof.Tally
public import Idealize.ShloMosaic.Lib.Layout

@[expose] public section

noncomputable section

namespace Cert.KernelIdeal.Paged

open Idealize.ShloMosaic Idealize.ShloMosaic.TcCoe Idealize.ShloMosaic.StableHlo Cert.KernelIdeal Cert.KernelIdeal.Gen Cert.Tally Cert.Softmax

/-- What the two programs' arguments have to do with each other, the whole arrays named. -/
structure Fed (m : (ℓ : Loc nD τ sig) → Buf (Elt Ideal) ℓ) (Q : FVec Ideal S8x1x8x64 .bf16) (K V : FVec Ideal Cert.ReferenceIdeal.S256x16x8x64 .bf16)
    (bt : IVec S8x64 32) (lens : IVec S8 32) : Prop where
  q : ∀ c : Dev nD, m ((c : Thread nD τ).loc main_arg0) = Q
  k : ∀ (c : Dev nD) p t h d, (m ((c : Thread nD τ).loc main_arg1) : FVec Ideal S64x16x8x64 .bf16) (ix4 p t h d) = K (ix4 (page (place c) p) t h d)
  v : ∀ (c : Dev nD) p t h d, (m ((c : Thread nD τ).loc main_arg2) : FVec Ideal S64x16x8x64 .bf16) (ix4 p t h d) = V (ix4 (page (place c) p) t h d)
  bt : ∀ c : Dev nD, m ((c : Thread nD τ).loc main_arg3) = bt
  lens : ∀ c : Dev nD, m ((c : Thread nD τ).loc main_arg4) = lens

variable {m : (ℓ : Loc nD τ sig) → Buf (Elt Ideal) ℓ} {Q : FVec Ideal S8x1x8x64 .bf16} {K V : FVec Ideal Cert.ReferenceIdeal.S256x16x8x64 .bf16}
  {bt : IVec S8x64 32} {lens : IVec S8 32}

/-- The page that a table's entry names. -/
def named' (bt : IVec S8x64 32) (b : Fin 8) (j : Fin 64) : Fin 256 := ⟨(bt (ix2 b j)).toNat % 256, Nat.mod_lt _ (by decide)⟩

theorem named_eq (b : Fin 8) (hp : ∀ j, Live lens b j → (bt (ix2 b j)).toNat < 256) (Q : Fin 256) :
    named bt lens b Q.val = (Finset.univ.filter fun j => named' bt b j = Q ∧ Live lens b j).card := by
  refine congrArg Finset.card (Finset.filter_congr fun j _ => and_congr_left fun hl => ?_)
  have h := hp j hl
  have hQ := Q.isLt
  constructor
  · intro e
    refine Fin.ext ?_
    show (bt (ix2 b j)).toNat % 256 = Q.val
    rw [e, BitVec.toNat_ofNat]; omega
  · intro e
    have e' : (bt (ix2 b j)).toNat % 256 = Q.val := congrArg Fin.val e
    refine BitVec.eq_of_toNat_eq ?_
    rw [BitVec.toNat_ofNat]; omega

/-- The softmax weights' common form on both sides. -/
def mean (S : Fin 256 → Fin 16 → ℝ) (V : Fin 256 → Fin 16 → EReal) (bt : IVec S8x64 32) (lens : IVec S8 32) (b : Fin 8) : EReal :=
  ∑ r : Fin 1024, if Live lens b (pg r) then
    ((Real.exp (S (named' bt b (pg r)) (tk r)) / ∑ k : Fin 1024, (if Live lens b (pg k) then Real.exp (S (named' bt b (pg k)) (tk k)) else 0) : ℝ) : EReal)
      * V (named' bt b (pg r)) (tk r) else 0

theorem total_pos (S : Fin 256 → Fin 16 → ℝ) (b : Fin 8) {k : Fin 1024} (hk : Live lens b (pg k)) :
    0 < ∑ k : Fin 1024, (if Live lens b (pg k) then Real.exp (S (named' bt b (pg k)) (tk k)) else 0) :=
  Finset.sum_pos' (fun i _ => by split <;> positivity) ⟨k, Finset.mem_univ _, by rw [if_pos hk]; positivity⟩

/-- The kernel's side. -/
theorem out_eq (H : Fed m Q K V bt lens) (c : Dev nD) (b h : Fin 8) (n : Fin 64) (S : Fin 256 → Fin 16 → ℝ)
    (hS : ∀ P t, (∑ d : Fin 64, K (ix4 P t h d) * Q (ix4 b 0 h d)) * Ideal.ofBits .f32 0x3E000000#32 = (S P t : EReal))
    (hp : ∀ j, Live lens b j → (bt (ix2 b j)).toNat < 256) {k : Fin 1024} (hk : Live lens b (pg k)) :
    (out m c : FVec Ideal S8x1x8x64 .f32) (ix4 b 0 h n) = mean S (fun P t => V (ix4 P t h n)) bt lens b := by
  obtain ⟨mk, hmk⟩ := mask_bits
  -- one device of the line
  have hw : ∀ (p : Fin 4) (r : Fin 1024), wIn m (onLine c p) (ix2 r (col h b))
      = (((Finset.univ.filter fun j => named' bt b j = page p (pg r) ∧ Live lens b j).card : ℝ) : EReal) := fun p r => by
    rw [wIn_apply, H.bt, H.lens, ← named_eq b hp, page_val, show (onLine c p).val % 4 = p.val from congrArg Fin.val (place_onLine c p)]
  have hs : ∀ (p : Fin 4) (r : Fin 1024), score (kIn m (onLine c p)) (qIn m (onLine c p)) h b r = (S (page p (pg r)) (tk r) : EReal) := fun p r => by
    unfold score
    rw [← hS]
    refine congrArg (· * _) (Finset.sum_congr rfl fun d _ => ?_)
    rw [qIn_apply, H.q, kIn_eq, H.k, place_onLine]
  have hpart := fun p : Fin 4 => part (fun r : Fin 1024 => (Finset.univ.filter fun j => named' bt b j = page p (pg r) ∧ Live lens b j).card)
    (fun r => S (page p (pg r)) (tk r)) mk (masked (kIn m (onLine c p)) (qIn m (onLine c p)) (wIn m (onLine c p)) h b) fun r => by
      unfold masked; rw [hw, hs, hmk]
  choose x hx hwt using hpart
  have htop : ∀ p, top (kIn m (onLine c p)) (qIn m (onLine c p)) (wIn m (onLine c p)) h b = (x p : EReal) := fun p => by
    rw [← hx p]; unfold top; rw [bot_bits]
  have hweight : ∀ p r, weight (kIn m (onLine c p)) (qIn m (onLine c p)) (wIn m (onLine c p)) h b r
      = (((Finset.univ.filter fun j => named' bt b j = page p (pg r) ∧ Live lens b j).card * Real.exp (S (page p (pg r)) (tk r)) * Real.exp (-x p) : ℝ) : EReal) := fun p r => by
    rw [← hwt p r]; unfold weight; rw [hw, htop, hx]
  have hZ : (∑ p, ∑ r : Fin 1024, ((Finset.univ.filter fun j => named' bt b j = page p (pg r) ∧ Live lens b j).card * Real.exp (S (page p (pg r)) (tk r)) : ℝ))
      = ∑ k : Fin 1024, (if Live lens b (pg k) then Real.exp (S (named' bt b (pg k)) (tk k)) else 0) := by
    refine Eq.trans ?_ (tally (Live lens b) (named' bt b) fun P t => Real.exp (S P t))
    exact Finset.sum_congr rfl fun p _ => Finset.sum_congr rfl fun r _ => (nsmul_eq_mul _ _).symm
  show combine (commBuf (X m) c) (ix2 (col h b) n) = _
  rw [combine_apply, whole _ _ _ x _ (fun p r => V (ix4 (page p (pg r)) (tk r) h n)) (fun p => ?_) (fun p => ?_) (fun p => ?_) (by rw [hZ]; exact total_pos S b hk), hZ]
  · unfold mean
    refine Eq.trans ?_ (tally (Live lens b) (named' bt b) fun P t => ((Real.exp (S P t) / ∑ k : Fin 1024, (if Live lens b (pg k) then Real.exp (S (named' bt b (pg k)) (tk k)) else 0) : ℝ) : EReal) * V (ix4 P t h n))
    refine Finset.sum_congr rfl fun p _ => Finset.sum_congr rfl fun r _ => ?_
    rw [EReal.nsmul_eq_mul, ← mul_assoc, mul_div_assoc, EReal.coe_mul]
    rfl
  · show X m (onLine c p) ⟨64, _⟩ (col h b) = _
    rw [← htop]; exact slot_tops _ _ _ _ h b
  · show X m (onLine c p) ⟨65, _⟩ (col h b) = _
    refine (slot_sums _ _ _ _ h b).trans (Finset.sum_congr rfl fun r _ => hweight p r)
  · show X m (onLine c p) ⟨(col h b).val, _⟩ n = _
    refine (slot_rows _ _ _ _ h b n).trans (Finset.sum_congr rfl fun r _ => ?_)
    rw [hweight, vIn_eq, H.v, place_onLine]

open Cert.ReferenceIdeal.Paged in
/-- The reference's side. -/
theorem ref_eq (b h : Fin 8) (n : Fin 64) (S : Fin 256 → Fin 16 → ℝ)
    (hS : ∀ P t, (∑ d : Fin 64, K (ix4 P t h d) * Q (ix4 b 0 h d)) * Ideal.ofBits .f32 0x3E000000#32 = (S P t : EReal))
    (hp : ∀ j, Live lens b j → (bt (ix2 b j)).toNat < 256) {k : Fin 1024} (hk : Live lens b (pg k)) :
    mixed (probs (scores Q (gathered K bt) lens)) (gathered V bt) (ix4 b 0 h n) = mean S (fun P t => V (ix4 P t h n)) bt lens b := by
  have hg : ∀ (x : FVec Ideal Cert.ReferenceIdeal.S256x16x8x64 .f32) (r : Fin 1024) (d : Fin 64), Live lens b (pg r) →
      gathered x bt (ix5 b (pg r) (tk r) h d) = x (ix4 (named' bt b (pg r)) (tk r) h d) := fun x r d hl => by
    rw [gathered_apply x bt b (pg r) (tk r) h d (hp _ hl)]
    exact congrArg (fun P => x (ix4 P (tk r) h d)) (Fin.ext (Nat.mod_eq_of_lt (hp _ hl)).symm)
  have hs : ∀ r : Fin 1024, scores Q (gathered K bt) lens (ix4 b h 0 r) = if Live lens b (pg r) then (S (named' bt b (pg r)) (tk r) : EReal) else ⊥ := fun r => by
    rw [scores_apply]
    by_cases hl : Live lens b (pg r)
    · have hb : IntOp.cmpi .slt (BitVec.ofNat 32 (Fin.divNat (n := 16) (m := 64) r).val) (lens (ix1 b)) = 1#1 := hl
      rw [if_pos hl, hb, ← hS]
      refine congrArg (· * _) (Finset.sum_congr rfl fun d _ => ?_)
      rw [mul_comm]
      exact congrArg (· * _) (hg K r d hl)
    · have hb : IntOp.cmpi .slt (BitVec.ofNat 32 (Fin.divNat (n := 16) (m := 64) r).val) (lens (ix1 b)) = 0#1 :=
        (BitVec.eq_zero_or_eq_one _).resolve_right hl
      rw [if_neg hl, hb]
      exact bot_bits
  rw [mixed_apply]
  simp only [probs_apply, risen_apply, bot_bits]
  refine (plain (fun r => Live lens b (pg r)) (fun r => S (named' bt b (pg r)) (tk r)) (fun r => gathered V bt (ix5 b (pg r) (tk r) h n)) hk
    (fun r => scores Q (gathered K bt) lens (ix4 b h 0 r)) hs).trans ?_
  refine Finset.sum_congr rfl fun r _ => ?_
  by_cases hl : Live lens b (pg r)
  · rw [if_pos hl, if_pos hl, hg V r n hl]
  · rw [if_neg hl, if_neg hl]; simp

/-- From arguments that meet the precondition, every device's result is the reference's. -/
theorem out_ref (H : Fed m Q K V bt lens)
    (hpre : ∀ c : Dev nD, Cert.Pre_addressed_KernelIdeal.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) ix0 = 1#1) (c : Dev nD) :
    (out m c : FVec Ideal S8x1x8x64 .f32) = Cert.ReferenceIdeal.Paged.mixed (Cert.ReferenceIdeal.Paged.probs (Cert.ReferenceIdeal.Paged.scores Q (Cert.ReferenceIdeal.Paged.gathered K bt) lens))
      (Cert.ReferenceIdeal.Paged.gathered V bt) := by
  have hread := fun c : Dev nD => Cert.Pre_addressed_KernelIdeal.reads _ _ _ _ _ (hpre c)
  have hl : ∀ b, 1 ≤ (lens (ix1 b)).toInt := fun b => by have := (hread 0).1 b; rwa [H.lens] at this
  have hp : ∀ b j, Live lens b j → (bt (ix2 b j)).toNat < 256 := fun b j h => by
    have := (hread 0).2.1 b j; rw [H.lens, H.bt] at this; exact this h
  have hq : ∀ i, ∃ y : ℝ, Q i = (y : EReal) := fun i => by have := (hread 0).2.2.1 i; rwa [H.q] at this
  have hk : ∀ P t h d, ∃ y : ℝ, K (ix4 P t h d) = (y : EReal) := fun P t h d => by
    obtain ⟨p, q, rfl⟩ := page_surj P
    obtain ⟨y, hy⟩ := (hread (onLine 0 p)).2.2.2 (ix4 q t h d)
    refine ⟨y, ?_⟩
    rw [← place_onLine 0 p, ← H.k]; exact hy
  choose yq hyq using hq
  choose yk hyk using hk
  funext i
  obtain ⟨b, z, h, n, rfl⟩ : ∃ (b : Fin 8) (z : Fin 1) (h : Fin 8) (n : Fin 64), i = ix4 b z h n := ⟨_, _, _, _, eq_ix4 i⟩
  obtain rfl : z = 0 := Subsingleton.elim _ _
  have hlive : Live lens b (pg 0) := by
    refine IntOp.cmpi_slt.2 ?_
    show (0#32 : BitVec 32).toInt < _
    have e0 : (0#32 : BitVec 32).toInt = 0 := by decide
    rw [e0]; have := hl b; omega
  have hS : ∀ P t, (∑ d : Fin 64, K (ix4 P t h d) * Q (ix4 b 0 h d)) * Ideal.ofBits .f32 0x3E000000#32
      = (((∑ d : Fin 64, yk P t h d * yq (ix4 b 0 h d)) * (1/8) : ℝ) : EReal) := fun P t => by
    rw [eighth_bits, EReal.coe_mul, ← coe_sum]
    refine congrArg (· * _) (Finset.sum_congr rfl fun d _ => ?_)
    rw [hyk, hyq, EReal.coe_mul]
  exact (out_eq H c b h n _ hS (hp b) hlive).trans (ref_eq b h n _ hS (hp b) hlive).symm

end Cert.KernelIdeal.Paged

end
-- ==== Proof.lean ====
/-
  The proof of the claims: the frames of the three programs, each from its run, and the two programs' equality.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_addressed_KernelIdeal
public import proofs.«01_k».proof.Proof.Gen.Pre_addressed_ReferenceIdeal
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The run, read at the arguments and the counters. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Paged.run_main (F := F) m ρ)

/-- The kernel's frame: its text is the idealised kernel's, so that kernel's run, over the bit patterns, is its run. -/
theorem frame_kernel : Cert.quiescent_Kernel := fun m ρ _ => by
  rw [Cert.KernelIdeal.Paged.defs_same]
  exact args_kept (F := Bits) m ρ

/-- The idealised kernel's frame. -/
theorem frame_ideal : Cert.quiescent_KernelIdeal := fun m ρ _ => args_kept (F := Ideal) m ρ

/-- The reference's frame: it declares no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-- A device's block of the pool is the pages of its place in its line. -/
theorem block_page (v : FVec Ideal ⟨4, ![256, 16, 8, 64]⟩ .bf16) (c : Dev Cert.KernelIdeal.nD) (p : Fin 64) (t : Fin 16) (h : Fin 8) (d : Fin 64) :
    (Layout.blockN ⟨4, ![64, 16, 8, 64]⟩ ⟨4, ![256, 16, 8, 64]⟩ (Layout.meshBlock [2, 2, 4] ![[2], [], [], []] c) v) (ix4 p t h d)
      = v (ix4 (Cert.Tally.page (Cert.KernelIdeal.Paged.place c) p) t h d) := by
  have hc : (Layout.meshBlock (r := 4) [2, 2, 4] ![[2], [], [], []] c (by decide) 0).val = c.val % 4 := by revert c; decide
  refine congrArg v (funext fun a => Fin.ext ?_)
  match a with
  | ⟨0, _⟩ =>
    show (Layout.meshBlock (r := 4) [2, 2, 4] ![[2], [], [], []] c (by decide) 0).val * 64 + p.val = (Cert.Tally.page (Cert.KernelIdeal.Paged.place c) p).val
    rw [hc, Cert.Tally.page_val]
    show _ = 64 * (c.val % 4) + p.val
    omega
  | ⟨1, _⟩ => show 0 * 16 + t.val = t.val; omega
  | ⟨2, _⟩ => show 0 * 8 + h.val = h.val; omega
  | ⟨3, _⟩ => show 0 * 64 + d.val = d.val; omega

/-- The two programs' results are equal. -/
theorem equal : Cert.algebraic_KernelIdeal_ReferenceIdeal_pre_addressed_KernelIdeal (hPre_addressed_KernelIdeal := Cert.Pre_addressed_KernelIdeal.Gen.facts) := by
  intro m ρ m' ρ' hpre hargs
  have hfed : Cert.KernelIdeal.Paged.Fed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c p t h d => (congrFun (hargs c).2.1 _).trans (block_page _ c p t h d),
      fun c p t h d => (congrFun (hargs c).2.2.1 _).trans (block_page _ c p t h d), fun c => (hargs c).2.2.2.1, fun c => (hargs c).2.2.2.2⟩
  have hout := fun c => (Cert.KernelIdeal.Paged.out_ref hfed (fun c => congrFun (hpre c) ix0) c).trans (Cert.ReferenceIdeal.Paged.res_eq m' 0).symm
  exact ⟨Cert.ReferenceIdeal.Value.res_main_v42 m' 0,
    (θ_run Cert.KernelIdeal.defs _ _).mono (fun _ h c => ⟨(h.1 c).1.trans (hout c), (h.1 c).2⟩) (Cert.KernelIdeal.Paged.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Pre_addressed_KernelIdeal.Gen.facts,
    Cert.Pre_addressed_ReferenceIdeal.Gen.facts, frame_kernel, frame_ideal, fun m ρ _ => frame_ideal m ρ trivial,
    frame_reference, fun m ρ _ => frame_reference m ρ trivial, trivial, equal⟩

end Cert.Proof

end
